-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_no_overflow [hPre_lengths_no_overflow : Cert.Pre_lengths_no_overflow.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_no_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_no_overflow [hPre_lengths_no_overflow : Cert.Pre_lengths_no_overflow.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_no_overflow.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_lengths_no_overflow [hKernelIdeal : Cert.KernelIdeal.Facts] [hPre_lengths_no_overflow : Cert.Pre_lengths_no_overflow.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_no_overflow m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_lengths_no_overflow [hReferenceIdeal : Cert.ReferenceIdeal.Facts] [hPre_lengths_no_overflow : Cert.Pre_lengths_no_overflow.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_no_overflow m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_lengths_no_overflow [hKernelIdeal : Cert.KernelIdeal.Facts] [hReferenceIdeal : Cert.ReferenceIdeal.Facts] [hPre_lengths_no_overflow : Cert.Pre_lengths_no_overflow.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_no_overflow m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_lengths_no_overflow : Cert.Pre_lengths_no_overflow.Facts),
    quiescent_Kernel (hKernel := hKernel)
    ∧ quiescent_KernelIdeal (hKernelIdeal := hKernelIdeal)
    ∧ quiescent_KernelIdeal_pre_lengths_no_overflow (hKernelIdeal := hKernelIdeal) (hPre_lengths_no_overflow := hPre_lengths_no_overflow)
    ∧ quiescent_ReferenceIdeal (hReferenceIdeal := hReferenceIdeal)
    ∧ quiescent_ReferenceIdeal_pre_lengths_no_overflow (hReferenceIdeal := hReferenceIdeal) (hPre_lengths_no_overflow := hPre_lengths_no_overflow)
    ∧ preserves_Kernel_KernelIdeal
    ∧ algebraic_KernelIdeal_ReferenceIdeal_pre_lengths_no_overflow (hKernelIdeal := hKernelIdeal) (hReferenceIdeal := hReferenceIdeal) (hPre_lengths_no_overflow := hPre_lengths_no_overflow)
-- ==== Pre_lengths_no_overflow.lean ====
abbrev S3x262144x384 : Shape := ⟨3, ![3, 262144, 384]⟩
abbrev S3x2048x384 : Shape := ⟨3, ![3, 2048, 384]⟩
abbrev S3x262144x320 : Shape := ⟨3, ![3, 262144, 320]⟩
abbrev S3x2048x320 : Shape := ⟨3, ![3, 2048, 320]⟩
abbrev S384x320 : Shape := ⟨2, ![384, 320]⟩
abbrev S3 : Shape := ⟨1, ![3]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S3x262144x384 .fp8e4m3) (main_arg1 : FVec F S3x2048x384 .f32) (main_arg2 : FVec F S3x262144x320 .fp8e5m2) (main_arg3 : FVec F S3x2048x320 .f32) (main_arg4 : FVec F S384x320 .f32) (main_arg5 : IVec S3 32) : IVec S3 1 :=
  let main_c : IVec S_ 32 := constantI S_ 32 2147743744#32
  let main_v0 : IVec S3 32 := broadcastInDim S3 ![] bcast_S_S3 main_c
  let main_v1 : IVec S3 1 := cmpi .sge main_arg5 main_v0
  let main_c_0 : IVec S_ 32 := constantI S_ 32 2147481600#32
  let main_v2 : IVec S3 32 := broadcastInDim S3 ![] bcast_S_S3 main_c_0
  let main_v3 : IVec S3 1 := cmpi .sle main_arg5 main_v2
  let main_v4 : IVec S3 1 := andi main_v1 main_v3
  main_v4
-- ==== Kernel.lean ====
abbrev S3x262144x384 : Shape := ⟨3, ![3, 262144, 384]⟩
abbrev S3x2048x384 : Shape := ⟨3, ![3, 2048, 384]⟩
abbrev S3x262144x320 : Shape := ⟨3, ![3, 262144, 320]⟩
abbrev S3x2048x320 : Shape := ⟨3, ![3, 2048, 320]⟩
abbrev S384x320 : Shape := ⟨2, ![384, 320]⟩
abbrev S3 : Shape := ⟨1, ![3]⟩
abbrev S1x2048x384 : Shape := ⟨3, ![1, 2048, 384]⟩
abbrev S1 : Shape := ⟨1, ![1]⟩
abbrev S1x16x384 : Shape := ⟨3, ![1, 16, 384]⟩
abbrev S1x2048x320 : Shape := ⟨3, ![1, 2048, 320]⟩
abbrev S1x16x320 : Shape := ⟨3, ![1, 16, 320]⟩
abbrev S2048x384 : Shape := ⟨2, ![2048, 384]⟩
abbrev S16x384 : Shape := ⟨2, ![16, 384]⟩
abbrev S16x128x384 : Shape := ⟨3, ![16, 128, 384]⟩
abbrev S16x1x384 : Shape := ⟨3, ![16, 1, 384]⟩
abbrev S2048x320 : Shape := ⟨2, ![2048, 320]⟩
abbrev S16x320 : Shape := ⟨2, ![16, 320]⟩
abbrev S16x128x320 : Shape := ⟨3, ![16, 128, 320]⟩
abbrev S16x1x320 : Shape := ⟨3, ![16, 1, 320]⟩

abbrev nBuf : Space → Nat
  | .hbm => 6
  | .vmem => 10
  | .smem => 1
  | _ => 0

abbrev bufTy : (tb : Table) → Fin (tcTables nBuf tb) → BufTy
  | .hbm, ⟨0, _⟩ => ⟨S3x262144x384, .fp8e4m3⟩
  | .hbm, ⟨1, _⟩ => ⟨S3x2048x384, .f32⟩
  | .hbm, ⟨2, _⟩ => ⟨S3x262144x320, .fp8e5m2⟩
  | .hbm, ⟨3, _⟩ => ⟨S3x2048x320, .f32⟩
  | .hbm, ⟨4, _⟩ => ⟨S384x320, .f32⟩
  | .hbm, ⟨5, _⟩ => ⟨S384x320, .f32⟩
  | .local _ .vmem, ⟨0, _⟩ => ⟨S1x2048x384, .fp8e4m3⟩
  | .local _ .vmem, ⟨1, _⟩ => ⟨S1x2048x384, .fp8e4m3⟩
  | .local _ .vmem, ⟨2, _⟩ => ⟨S1x16x384, .f32⟩
  | .local _ .vmem, ⟨3, _⟩ => ⟨S1x16x384, .f32⟩
  | .local _ .vmem, ⟨4, _⟩ => ⟨S1x2048x320, .fp8e5m2⟩
  | .local _ .vmem, ⟨5, _⟩ => ⟨S1x2048x320, .fp8e5m2⟩
  | .local _ .vmem, ⟨6, _⟩ => ⟨S1x16x320, .f32⟩
  | .local _ .vmem, ⟨7, _⟩ => ⟨S1x16x320, .f32⟩
  | .local _ .vmem, ⟨8, _⟩ => ⟨S384x320, .f32⟩
  | .local _ .vmem, ⟨9, _⟩ => ⟨S384x320, .f32⟩
  | .local _ .smem, ⟨0, _⟩ => ⟨S3, .i32⟩
  | _, _ => ⟨S3x262144x384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![3, 128], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) (v6 : BitVec 32) : BitVec 1 :=
  let arg1 : BitVec 32 := BitVec.ofNat 32 (i 1).val
  let c2048_i32 : BitVec 32 := 2048#32
  let v7 : BitVec 32 := Scalar.muli arg1 c2048_i32
  let v8 : BitVec 32 := Scalar.subi v6 v7
  let c2048_i32_2 : BitVec 32 := 2048#32
  let v9 : BitVec 1 := Scalar.cmpi .sge v8 c2048_i32_2
  let v10 : BitVec 32 := Scalar.extui v9
  let c0_i32_3 : BitVec 32 := 0#32
  let v11 : BitVec 1 := Scalar.cmpi .ne v10 c0_i32_3
  v11

def k0_cond3 (i : grid0.Coords) (v6 : BitVec 32) : BitVec 1 :=
  let arg1 : BitVec 32 := BitVec.ofNat 32 (i 1).val
  let c2048_i32 : BitVec 32 := 2048#32
  let v7 : BitVec 32 := Scalar.muli arg1 c2048_i32
  let v8 : BitVec 32 := Scalar.subi v6 v7
  let c0_i32_4 : BitVec 32 := 0#32
  let v12 : BitVec 1 := Scalar.cmpi .sgt v8 c0_i32_4
  let c2048_i32_5 : BitVec 32 := 2048#32
  let v13 : BitVec 1 := Scalar.cmpi .slt v8 c2048_i32_5
  let v14 : BitVec 1 := Scalar.andi v12 v13
  let v15 : BitVec 32 := Scalar.extui v14
  let c0_i32_6 : BitVec 32 := 0#32
  let v16 : BitVec 1 := Scalar.cmpi .ne v15 c0_i32_6
  v16

def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c2047_i32 : BitVec 32 := 2047#32
  let v2 : BitVec 32 := Scalar.addi v1 c2047_i32
  let c2048_i32 : BitVec 32 := 2048#32
  let v3 : BitVec 32 := Scalar.divsi v2 c2048_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c2047_i32 : BitVec 32 := 2047#32
  let v2 : BitVec 32 := Scalar.addi v1 c2047_i32
  let c2048_i32 : BitVec 32 := 2048#32
  let v3 : BitVec 32 := Scalar.divsi v2 c2048_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_2 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c2047_i32 : BitVec 32 := 2047#32
  let v2 : BitVec 32 := Scalar.addi v1 c2047_i32
  let c2048_i32 : BitVec 32 := 2048#32
  let v3 : BitVec 32 := Scalar.divsi v2 c2048_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_3 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c2047_i32 : BitVec 32 := 2047#32
  let v2 : BitVec 32 := Scalar.addi v1 c2047_i32
  let c2048_i32 : BitVec 32 := 2048#32
  let v3 : BitVec 32 := Scalar.divsi v2 c2048_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x320 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S384x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S3x262144x384 : Shape := ⟨3, ![3, 262144, 384]⟩
abbrev S3x2048x384 : Shape := ⟨3, ![3, 2048, 384]⟩
abbrev S3x262144x320 : Shape := ⟨3, ![3, 262144, 320]⟩
abbrev S3x2048x320 : Shape := ⟨3, ![3, 2048, 320]⟩
abbrev S384x320 : Shape := ⟨2, ![384, 320]⟩
abbrev S3 : Shape := ⟨1, ![3]⟩
abbrev S3x2048x128x384 : Shape := ⟨4, ![3, 2048, 128, 384]⟩
abbrev S3x2048x1x384 : Shape := ⟨4, ![3, 2048, 1, 384]⟩
abbrev S3x2048x128x320 : Shape := ⟨4, ![3, 2048, 128, 320]⟩
abbrev S3x2048x1x320 : Shape := ⟨4, ![3, 2048, 1, 320]⟩
abbrev S2048 : Shape := ⟨1, ![2048]⟩
abbrev S2048x1 : Shape := ⟨2, ![2048, 1]⟩
abbrev S_ : Shape := ⟨0, ![]⟩
abbrev S128 : Shape := ⟨1, ![128]⟩
abbrev S1x128 : Shape := ⟨2, ![1, 128]⟩
abbrev S2048x128 : Shape := ⟨2, ![2048, 128]⟩
abbrev S1x2048x128 : Shape := ⟨3, ![1, 2048, 128]⟩
abbrev S3x1x1 : Shape := ⟨3, ![3, 1, 1]⟩
abbrev S3x2048x128 : Shape := ⟨3, ![3, 2048, 128]⟩
abbrev S3x2048x128x1 : Shape := ⟨4, ![3, 2048, 128, 1]⟩

abbrev nBuf : Space → Nat
  | .hbm => 40
  | .vmem => 4
  | .smem => 0
  | _ => 0

abbrev bufTy : (tb : Table) → Fin (tcTables nBuf tb) → BufTy
  | .hbm, ⟨0, _⟩ => ⟨S3x262144x384, .fp8e4m3⟩
  | .hbm, ⟨1, _⟩ => ⟨S3x2048x384, .f32⟩
  | .hbm, ⟨2, _⟩ => ⟨S3x262144x320, .fp8e5m2⟩
  | .hbm, ⟨3, _⟩ => ⟨S3x2048x320, .f32⟩
  | .hbm, ⟨4, _⟩ => ⟨S384x320, .f32⟩
  | .hbm, ⟨5, _⟩ => ⟨S3, .i32⟩
  | .hbm, ⟨6, _⟩ => ⟨S3x262144x384, .bf16⟩
  | .hbm, ⟨7, _⟩ => ⟨S3x262144x320, .bf16⟩
  | .hbm, ⟨8, _⟩ => ⟨S3x2048x128x384, .bf16⟩
  | .hbm, ⟨9, _⟩ => ⟨S3x2048x1x384, .f32⟩
  | .hbm, ⟨10, _⟩ => ⟨S3x2048x1x384, .bf16⟩
  | .hbm, ⟨11, _⟩ => ⟨S3x2048x128x384, .bf16⟩
  | .hbm, ⟨12, _⟩ => ⟨S3x2048x128x384, .bf16⟩
  | .hbm, ⟨13, _⟩ => ⟨S3x2048x128x320, .bf16⟩
  | .hbm, ⟨14, _⟩ => ⟨S3x2048x1x320, .f32⟩
  | .hbm, ⟨15, _⟩ => ⟨S3x2048x1x320, .bf16⟩
  | .hbm, ⟨16, _⟩ => ⟨S3x2048x128x320, .bf16⟩
  | .hbm, ⟨17, _⟩ => ⟨S3x2048x128x320, .bf16⟩
  | .hbm, ⟨18, _⟩ => ⟨S2048, .i32⟩
  | .hbm, ⟨19, _⟩ => ⟨S2048x1, .i32⟩
  | .hbm, ⟨20, _⟩ => ⟨S_, .i32⟩
  | .hbm, ⟨21, _⟩ => ⟨S2048x1, .i32⟩
  | .hbm, ⟨22, _⟩ => ⟨S2048x1, .i32⟩
  | .hbm, ⟨23, _⟩ => ⟨S128, .i32⟩
  | .hbm, ⟨24, _⟩ => ⟨S1x128, .i32⟩
  | .hbm, ⟨25, _⟩ => ⟨S2048x128, .i32⟩
  | .hbm, ⟨26, _⟩ => ⟨S2048x128, .i32⟩
  | .hbm, ⟨27, _⟩ => ⟨S2048x128, .i32⟩
  | .hbm, ⟨28, _⟩ => ⟨S1x2048x128, .i32⟩
  | .hbm, ⟨29, _⟩ => ⟨S3x1x1, .i32⟩
  | .hbm, ⟨30, _⟩ => ⟨S3x2048x128, .i32⟩
  | .hbm, ⟨31, _⟩ => ⟨S3x2048x128, .i32⟩
  | .hbm, ⟨32, _⟩ => ⟨S3x2048x128, .i1⟩
  | .hbm, ⟨33, _⟩ => ⟨S3x2048x128x1, .i1⟩
  | .hbm, ⟨34, _⟩ => ⟨S_, .bf16⟩
  | .hbm, ⟨35, _⟩ => ⟨S3x2048x128x320, .i1⟩
  | .hbm, ⟨36, _⟩ => ⟨S3x2048x128x320, .bf16⟩
  | .hbm, ⟨37, _⟩ => ⟨S3x2048x128x320, .bf16⟩
  | .hbm, ⟨38, _⟩ => ⟨S384x320, .f32⟩
  | .hbm, ⟨39, _⟩ => ⟨S384x320, .f32⟩
  | .local _ .vmem, ⟨0, _⟩ => ⟨S3x262144x384, .fp8e4m3⟩
  | .local _ .vmem, ⟨1, _⟩ => ⟨S3x262144x320, .fp8e5m2⟩
  | .local _ .vmem, ⟨2, _⟩ => ⟨S3x262144x384, .bf16⟩
  | .local _ .vmem, ⟨3, _⟩ => ⟨S3x262144x320, .bf16⟩
  | _, _ => ⟨S3x262144x384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x262144x384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x262144x320 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x262144x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x262144x320 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRun.lean ====
module

public import proofs.«01_k».proof.Proof.Gen.Kernel.Launch
public import proofs.«01_k».proof.Proof.Gen.Kernel.Skeleton
public import Idealize.ShloMosaic.Lib.Pipeline.FrameBody
public import Idealize.ShloMosaic.Lib.Pipeline.Kit
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table of lengths as the body is handed it: its whole buffer as a memref, -/
abbrev tbM : Memref sig .tc .smem S3 .i32 := Memref.whole main_arg5
/-- and that memref is whole. -/
abbrev htbM : tbM.IsWhole := Memref.isWhole_whole _

/-- The table's buffer on core `c`: its contents type, -/
abbrev TbBuf (c : Dev nD) {S : Shape} {e : EltTy} (M : Memref sig .tc .smem S e) : Type := Buf (Elt F) (M.view.loc (c : Thread nD τ))
/-- and it held at half the full share at `f` (the pipeline keeps the other half). -/
abbrev tbPt (c : Dev nD) {S : Shape} {e : EltTy} (M : Memref sig .tc .smem S e) (f : TbBuf (F := F) c M) : sProp 𝕄 :=
  M.view.loc (c : Thread nD τ) ↦{fullShare.right} f

/-- The word the body loads from the table at the grid point `i`: the length of the point's batch. -/
def lenRd (c : Dev nD) (i : grid0.Coords) (T : TbBuf (F := F) c tbM) : Elt F .i32 :=
  View.readAt (Elt F) tbM.view (Rect.unit (s := S3) (k0_off1 i) S1.size (k0_off1_inb i)).toLoadRect T (Shape.Idx.first (numel1_S1.symm ▸ Nat.one_pos))

/-- A whole-block store leaves its payload, whatever was stored before it; -/
theorem read_full2 (v : View sig .tc .vmem S384x320 .f32) (f : v.ty.Contents (Elt F)) (w : S384x320.Idx → Elt F .f32) (L : List (View.Piece (Elt F) S384x320 .f32)) :
    v.read (Elt F) (v.writes (Elt F) f (⟨Rect.unit (s := S384x320) ![0, 0] S384x320.size inb_S384x320_S384x320_0_0, w⟩ :: L)) = w :=
  View.read_writes_full v f _ w L
/-- a whole-block load after such a store reads the payload; -/
theorem readCov_full2 (v : View sig .tc .vmem S384x320 .f32) (w : S384x320.Idx → Elt F .f32) (L : List (View.Piece (Elt F) S384x320 .f32)) :
    v.readCov (⟨Rect.unit (s := S384x320) ![0, 0] S384x320.size inb_S384x320_S384x320_0_0, w⟩ :: L) (Rect.unit (s := S384x320) ![0, 0] S384x320.size inb_S384x320_S384x320_0_0).toLoadRect = w :=
  View.readCov_full v _ _ w L
/-- and a whole-block load of what a buffer holds reads what the buffer reads. -/
theorem readAt_full2 (v : View sig .tc .vmem S384x320 .f32) (f : v.ty.Contents (Elt F)) :
    v.readAt (Elt F) (Rect.unit (s := S384x320) ![0, 0] S384x320.size inb_S384x320_S384x320_0_0).toLoadRect f = v.read (Elt F) f := View.readAt_full v f _
/-- A read of this whole staging buffer is its contents. -/
theorem readAt_full3a (v : View sig .tc .vmem S1x2048x384 .fp8e4m3) (f : v.ty.Contents (Elt F)) :
    v.readAt (Elt F) (Rect.unit (s := S1x2048x384) ![0, 0, 0] S1x2048x384.size inb_S1x2048x384_S1x2048x384_0_0_0).toLoadRect f = v.read (Elt F) f := View.readAt_full v f _
/-- A read of this whole staging buffer is its contents. -/
theorem readAt_full3b (v : View sig .tc .vmem S1x16x384 .f32) (f : v.ty.Contents (Elt F)) :
    v.readAt (Elt F) (Rect.unit (s := S1x16x384) ![0, 0, 0] S1x16x384.size inb_S1x16x384_S1x16x384_0_0_0).toLoadRect f = v.read (Elt F) f := View.readAt_full v f _
/-- A read of this whole staging buffer is its contents. -/
theorem readAt_full3c (v : View sig .tc .vmem S1x2048x320 .fp8e5m2) (f : v.ty.Contents (Elt F)) :
    v.readAt (Elt F) (Rect.unit (s := S1x2048x320) ![0, 0, 0] S1x2048x320.size inb_S1x2048x320_S1x2048x320_0_0_0).toLoadRect f = v.read (Elt F) f := View.readAt_full v f _
/-- A read of this whole staging buffer is its contents. -/
theorem readAt_full3d (v : View sig .tc .vmem S1x16x320 .f32) (f : v.ty.Contents (Elt F)) :
    v.readAt (Elt F) (Rect.unit (s := S1x16x320) ![0, 0, 0] S1x16x320.size inb_S1x16x320_S1x16x320_0_0_0).toLoadRect f = v.read (Elt F) f := View.readAt_full v f _

/-- What one grid point does to the accumulator `xo`: the first point starts from the main gradient `x4`; a full block
    (`k0_cond2`) adds its product; a partial block (`k0_cond3`) adds its masked product; any other leaves it. -/
def step (i : grid0.Coords) (w : Elt F .i32) (x0 : Vec F S1x2048x384 .fp8e4m3) (x1 : Vec F S1x16x384 .f32) (x2 : Vec F S1x2048x320 .fp8e5m2)
    (x3 : Vec F S1x16x320 .f32) (x4 xo : Vec F S384x320 .f32) : Vec F S384x320 .f32 :=
  let a := if k0_cond1 i = 1#1 then x4 else xo
  let b := if k0_cond2 i w = 1#1 then k0_pay1 x0 x1 x2 x3 a else a
  if k0_cond3 i w = 1#1 then k0_pay2 i w x0 x1 x2 x3 b else b

set_option maxHeartbeats 4000000 in
/-- The kernel's body on any whole staging buffers: from the inputs' blocks, the accumulator at `xo` and the table, to the same inputs
    and table with the accumulator at `step` of it. -/
theorem body_triple (c : Dev nD) (i : grid0.Coords) (arg3 : Memref sig .tc .vmem S1x2048x384 .fp8e4m3) (harg3 : arg3.IsWhole) (arg4 : Memref sig .tc .vmem S1x16x384 .f32) (harg4 : arg4.IsWhole) (arg5 : Memref sig .tc .vmem S1x2048x320 .fp8e5m2) (harg5 : arg5.IsWhole) (arg6 : Memref sig .tc .vmem S1x16x320 .f32) (harg6 : arg6.IsWhole) (arg7 : Memref sig .tc .vmem S384x320 .f32) (harg7 : arg7.IsWhole) (arg8 : Memref sig .tc .vmem S384x320 .f32) (harg8 : arg8.IsWhole)
    (x0 : Vec F S1x2048x384 .fp8e4m3) (x1 : Vec F S1x16x384 .f32) (x2 : Vec F S1x2048x320 .fp8e5m2) (x3 : Vec F S1x16x320 .f32) (x4 : Vec F S384x320 .f32) (T : TbBuf (F := F) c tbM) (xo : Vec F S384x320 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ tbPt c tbM T
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (step i (lenRd c i T) x0 x1 x2 x3 x4 xo) ∗ tbPt c tbM T) -∗ K ⟨⟩))
          ⊢ wp frame (wpE (defs₀ (F := F)) Variants.none c none) E (cc0__body i tbM htbM arg3 harg3 arg4 harg4 arg5 harg5 arg6 harg6 arg7 harg7 arg8 harg8) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, HT0, Hk⟩
    by_cases hc1 : k0_cond1 i = 1#1 <;> by_cases hc2 : k0_cond2 i (lenRd c i T) = 1#1 <;> by_cases hc3 : k0_cond3 i (lenRd c i T) = 1#1
    all_goals
      have hst : step i (lenRd c i T) x0 x1 x2 x3 x4 xo = step i (lenRd c i T) x0 x1 x2 x3 x4 xo := rfl
      conv_rhs at hst => unfold step
      simp only [hc1, hc2, hc3, if_true, if_false, ite_true, ite_false] at hst
      rw [hst]
      clear hst
      unfold lenRd at hc2 hc3
      sl_exec (disch := first | sl_exact hc1 | sl_exact hc2 | sl_exact hc3)
      sl_step
      iapply Hk
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; swap; · iexact H5
        ipureintro
        first
        | refine (read_full2 _ _ _ _).trans ?_
          sl_unfold_words
          repeat rw [readAt_full3a]
          repeat rw [readAt_full3b]
          repeat rw [readAt_full3c]
          repeat rw [readAt_full3d]
          repeat rw [readCov_full2]
          repeat rw [readAt_full2]
          rw [hf0, hf1, hf2, hf3]
          first | rw [hf4] | rw [hf5]
          first | done | rfl
        | refine (read_full2 _ _ _ _).trans ?_
          sl_unfold_words
          rw [readAt_full2, hf4]
        | exact hf5
      iexact HT0

end Cert.Kernel.Gen

end
-- ==== Proof.KernelFrame.lean ====
module

public import proofs.«01_k».proof.Proof.KernelRun
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 4 (operand 5 (%arg4)) is fetched at the first point only, at any contents of the tables (its index map reads none). -/
theorem fetch0_4 (a : (pcfg0 (F := F)).Adm) : ∀ t : Fin (cfg0 a).N, ((cfg0 a).win 4).fetch t = true ↔ t.val % 384 = 0 :=
  (fun t => Pipeline.Window.fetchOf_const cc0_transform_4 (fun _ _ => rfl) (n := 384) (by decide) t : ∀ t : Fin grid0.N, Pipeline.Window.fetchOf grid0 false cc0_transform_4 t = true ↔ t.val % 384 = 0)
/-- Window 5 (result 0 (%0)) is written back at the last point only, at any contents of the tables (its index map reads none). -/
theorem flush0_5 (a : (pcfg0 (F := F)).Adm) : ∀ t : Fin (cfg0 a).N, ((cfg0 a).win 5).flush t = true ↔ t.val % 384 = 383 :=
  (fun t => Pipeline.Window.flushOf_const cc0_transform_5 (fun _ _ => rfl) (n := 384) (by decide) rfl t : ∀ t : Fin grid0.N, Pipeline.Window.flushOf grid0 true cc0_transform_5 t = true ↔ t.val % 384 = 383)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The region finds this argument as launched. -/
theorem V_main_arg0 (c : Dev nD) : V m c main_arg0 = m ((c : Thread nD τ).loc main_arg0) := rfl
/-- The region finds this argument as launched. -/
theorem V_main_arg1 (c : Dev nD) : V m c main_arg1 = m ((c : Thread nD τ).loc main_arg1) := rfl
/-- The region finds this argument as launched. -/
theorem V_main_arg2 (c : Dev nD) : V m c main_arg2 = m ((c : Thread nD τ).loc main_arg2) := rfl
/-- The region finds this argument as launched. -/
theorem V_main_arg3 (c : Dev nD) : V m c main_arg3 = m ((c : Thread nD τ).loc main_arg3) := rfl
/-- The region finds this argument as launched. -/
theorem V_main_arg4 (c : Dev nD) : V m c main_arg4 = m ((c : Thread nD τ).loc main_arg4) := rfl
/-- The region finds this argument as launched. -/
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`). It holds at every contents (`ok_all`). -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (by decide : main_arg5 ∈ Pipeline.restRefs sig spec0)).trans (V_main_arg5 m c)⟩) h

/-- Each window's current staging memref at point `t`, spelled as the pipeline passes it (`bodyAt0`), and its wholeness. -/
abbrev ms0_0 (hO : Ok m) (t : Fin (cfgM m hO).N) : Memref sig .tc .vmem S1x2048x384 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x16x384 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x320 .fp8e5m2 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x16x320 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S384x320 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S384x320 .f32 := spec0_5.stage ((cfgM m hO).slots t 5)
abbrev hs0_5 (hO : Ok m) (t : Fin (cfgM m hO).N) : (ms0_5 m hO t).IsWhole := hstage0_5 (((cfgM m hO).slots t 5).cast nbuf0_5)

/-! ## The index maps: every block inside its array, whatever the lengths -/

/-- The token block the index maps stage at the grid point `(b, n)`, from the length word `w` of batch `b`: `n`, or the
    last block the length reaches if `n` is beyond it. -/
def blkOf (w : BitVec 32) (n : ℕ) : ℕ :=
  (Scalar.minsi (BitVec.ofNat 32 n) (Scalar.maxsi (Scalar.subi (Scalar.divsi (Scalar.addi w 2047#32) 2048#32) 1#32) 0#32)).toNat

/-- It is never beyond `n`. -/
theorem blkOf_le (w : BitVec 32) (n : ℕ) (hn : n < 128) : blkOf w n ≤ n := by
  unfold blkOf
  generalize Scalar.subi (Scalar.divsi (Scalar.addi w 2047#32) 2048#32) 1#32 = x
  have h0 : 0 ≤ (Scalar.maxsi x 0#32).toInt := by
    show 0 ≤ (if (0#32).slt x then x else 0#32).toInt
    split
    · next h => rw [BitVec.slt_iff_toInt_lt] at h; exact le_of_lt h
    · simp
  generalize Scalar.maxsi x 0#32 = y at h0
  have hN : (BitVec.ofNat 32 n).toNat = n := by rw [BitVec.toNat_ofNat]; omega
  have hI : (BitVec.ofNat 32 n).toInt = n := by rw [BitVec.toInt_eq_toNat_of_lt (by omega), hN]
  show (if (BitVec.ofNat 32 n).slt y then BitVec.ofNat 32 n else y).toNat ≤ n
  split
  · rw [hN]
  · next h =>
    rw [BitVec.slt_iff_toInt_lt, hI] at h
    have hy : y.toInt = y.toNat := by
      rw [BitVec.toInt_eq_toNat_cond] at h0 ⊢
      split at h0 <;> omega
    omega

/-- The length word the index maps read at the point `i`. -/
def lenAt (pf : pre0.Contents (Elt F)) (i : grid0.Coords) : BitVec 32 := pf.atD 0 (k0_off1 i)

/-- The body reads the table at the point's batch. -/
theorem off1_eq (i : grid0.Coords) : k0_off1 i = ![(i 0).val] := by
  have r_i0 : (i 0).val < 3 := (i 0).isLt
  unfold k0_off1
  show ![(BitVec.ofNat 32 (i 0).val).toNat] = _
  rw [BitVec.toNat_ofNat, Nat.mod_eq_of_lt (by omega)]

/-- The same length, as the index maps read it. -/
theorem lenAt_eq (pf : pre0.Contents (Elt F)) (i : grid0.Coords) :
    lenAt pf i = pf.at 0 (Rect.unit (s := S3) (k0_off1 i) S1.size (k0_off1_inb i)) numel1_S1 := by
  unfold lenAt Pipeline.Prefetch.Contents.atD
  split
  · refine congrArg (pf 0) ?_
    funext a
    match a with
    | ⟨0, _⟩ => exact Fin.ext (Nat.add_zero _).symm
  · next h =>
    exact (h fun a => by match a with | ⟨0, _⟩ => exact k0_off1_inb i 0).elim

/-- The word the body loads is the one the index maps read. -/
theorem lenRd_eq (c : Dev nD) (i : grid0.Coords) (pf : pre0.Contents (Elt F)) : lenRd c i (pf 0) = lenAt pf i := by
  rw [lenAt_eq]; rfl

/-- This input's index map at a point, in closed form. -/
theorem transform_0_eq (pf : pre0.Contents (Elt F)) (i : grid0.Coords) :
    cc0_transform_0 k0_off1_inb numel1_S1 pf i = ![(i 0).val, blkOf (lenAt pf i) (i 1).val, 0] := by
  have r_i0 : (i 0).val < 3 := (i 0).isLt
  rw [lenAt_eq]
  show ![(BitVec.ofNat 32 (i 0).val).toNat, _, _] = _
  rw [BitVec.toNat_ofNat, Nat.mod_eq_of_lt (by omega)]
  rfl
/-- This input's index map at a point, in closed form. -/
theorem transform_1_eq (pf : pre0.Contents (Elt F)) (i : grid0.Coords) :
    cc0_transform_1 k0_off1_inb numel1_S1 pf i = ![(i 0).val, blkOf (lenAt pf i) (i 1).val, 0] := transform_0_eq pf i
/-- This input's index map at a point, in closed form. -/
theorem transform_2_eq (pf : pre0.Contents (Elt F)) (i : grid0.Coords) :
    cc0_transform_2 k0_off1_inb numel1_S1 pf i = ![(i 0).val, blkOf (lenAt pf i) (i 1).val, 0] := transform_0_eq pf i
/-- This input's index map at a point, in closed form. -/
theorem transform_3_eq (pf : pre0.Contents (Elt F)) (i : grid0.Coords) :
    cc0_transform_3 k0_off1_inb numel1_S1 pf i = ![(i 0).val, blkOf (lenAt pf i) (i 1).val, 0] := transform_0_eq pf i

/-- A rectangle whose second-minor extent and offset are multiples of the packing has whole words. -/
theorem words_of_dvd {s : Shape} {p : ℕ} (r : Rect s) (h2 : 2 ≤ s.rank) (hs : r.stride (s.rowAx h2) = 1)
    (ho : p ∣ r.off (s.rowAx h2)) (hz : p ∣ r.size (s.rowAx h2)) : r.WholeWords p :=
  Rect.PackedRows.wholeWords (.inr ⟨h2, hs, .inl ⟨ho, hz⟩⟩)

/-- The pipeline's side condition holds at every contents of the table of lengths. -/
theorem ok_all (pf : pre0.Contents (Elt F)) : ok0 pf := by
  have hb : ∀ i : grid0.Coords, (i 0).val < 3 ∧ blkOf (lenAt pf i) (i 1).val < 128 := fun i =>
    ⟨(i 0).isLt, lt_of_le_of_lt (blkOf_le _ _ (i 1).isLt) (i 1).isLt⟩
  refine ⟨fun i => ?_, fun i => ?_, fun i => ?_, fun i => ?_⟩ <;> obtain ⟨h0, h1⟩ := hb i
  · refine ⟨?_, .inr ?_⟩
    · rw [transform_0_eq]; intro a
      match a with
      | ⟨0, _⟩ => show ((i 0).val + 1) * 1 ≤ 3; omega
      | ⟨1, _⟩ => show (blkOf (lenAt pf i) (i 1).val + 1) * 2048 ≤ 262144; omega
      | ⟨2, _⟩ => show (0 + 1) * 384 ≤ 384; omega
    · have h2 : 2 ≤ S3x262144x384.rank := by decide
      have hd : EltTy.packing .fp8e4m3 ∣ S1x2048x384.size (S3x262144x384.rowAx h2) := by decide +revert
      exact words_of_dvd _ h2 rfl (Dvd.dvd.mul_left hd _) hd
  · refine ⟨?_, .inl rfl⟩
    rw [transform_1_eq]; intro a
    match a with
    | ⟨0, _⟩ => show ((i 0).val + 1) * 1 ≤ 3; omega
    | ⟨1, _⟩ => show (blkOf (lenAt pf i) (i 1).val + 1) * 16 ≤ 2048; omega
    | ⟨2, _⟩ => show (0 + 1) * 384 ≤ 384; omega
  · refine ⟨?_, .inr ?_⟩
    · rw [transform_2_eq]; intro a
      match a with
      | ⟨0, _⟩ => show ((i 0).val + 1) * 1 ≤ 3; omega
      | ⟨1, _⟩ => show (blkOf (lenAt pf i) (i 1).val + 1) * 2048 ≤ 262144; omega
      | ⟨2, _⟩ => show (0 + 1) * 320 ≤ 320; omega
    · have h2 : 2 ≤ S3x262144x320.rank := by decide
      have hd : EltTy.packing .fp8e5m2 ∣ S1x2048x320.size (S3x262144x320.rowAx h2) := by decide +revert
      exact words_of_dvd _ h2 rfl (Dvd.dvd.mul_left hd _) hd
  · refine ⟨?_, .inl rfl⟩
    rw [transform_3_eq]; intro a
    match a with
    | ⟨0, _⟩ => show ((i 0).val + 1) * 1 ≤ 3; omega
    | ⟨1, _⟩ => show (blkOf (lenAt pf i) (i 1).val + 1) * 16 ≤ 2048; omega
    | ⟨2, _⟩ => show (0 + 1) * 320 ≤ 320; omega

/-! ## The branch conditions -/

/-- The first branch is taken at the first grid point only. -/
theorem cond1_iff : ∀ t : Fin grid0.N, k0_cond1 (grid0.coords t) = 1#1 ↔ t.val = 0 := fun t => by
  have ht : t.val < 384 := Nat.lt_of_lt_of_eq t.isLt N_0
  have e0 : (grid0.coords t 0).val = t.val / 128 % 3 := Pipeline.Grid.coords_val t 0 (by decide) rfl
  have e1 : (grid0.coords t 1).val = t.val / 1 % 128 := Pipeline.Grid.coords_val t 1 (by decide) rfl
  simp only [k0_cond1, e0, e1]
  word_cmp

/-- `step` where no branch is taken. -/
theorem step_idle (i : grid0.Coords) (w : Elt F .i32) (x0 : Vec F S1x2048x384 .fp8e4m3) (x1 : Vec F S1x16x384 .f32) (x2 : Vec F S1x2048x320 .fp8e5m2)
    (x3 : Vec F S1x16x320 .f32) (x4 xo : Vec F S384x320 .f32) (h1 : ¬k0_cond1 i = 1#1) (h2 : ¬k0_cond2 i w = 1#1) (h3 : ¬k0_cond3 i w = 1#1) :
    step i w x0 x1 x2 x3 x4 xo = xo := by
  unfold step; simp only [if_neg h1, if_neg h2, if_neg h3]

/-- `step` at the first point does not read the accumulator. -/
theorem step_first (i : grid0.Coords) (w : Elt F .i32) (x0 : Vec F S1x2048x384 .fp8e4m3) (x1 : Vec F S1x16x384 .f32) (x2 : Vec F S1x2048x320 .fp8e5m2)
    (x3 : Vec F S1x16x320 .f32) (x4 xo xo' : Vec F S384x320 .f32) (h1 : k0_cond1 i = 1#1) :
    step i w x0 x1 x2 x3 x4 xo = step i w x0 x1 x2 x3 x4 xo' := by
  unfold step; simp only [if_pos h1]

/-- The output window is idle where no branch is taken, and only there. -/
theorem idle5_iff (a : (pcfg0 (F := F)).Adm) (i : grid0.Coords) :
    (cfg0 a).idle 5 i = true ↔ ¬k0_cond1 i = 1#1 ∧ ¬k0_cond2 i (lenAt a.1 i) = 1#1 ∧ ¬k0_cond3 i (lenAt a.1 i) = 1#1 := by
  show (!(k0_cond1 i == 1#1) && !(k0_cond2 i (lenAt a.1 i) == 1#1) && !(k0_cond3 i (lenAt a.1 i) == 1#1)) = true ↔ _
  simp only [Bool.and_eq_true, Bool.not_eq_true', beq_eq_false_iff_ne, ne_eq, and_assoc]

/-! ## The accumulator after each point -/

/-- The accumulator after position `n` of the grid: `step` of the one before. -/
def acc (hO : Ok m) (c : Dev nD) : (n : ℕ) → n < (cfgM m hO).N → Vec F S384x320 .f32
  | 0, hn => step (grid0.coords ⟨0, hn⟩) (lenAt (tbl m) (grid0.coords ⟨0, hn⟩)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 4 ⟨0, hn⟩)
  | n + 1, hn => step (grid0.coords ⟨n + 1, hn⟩) (lenAt (tbl m) (grid0.coords ⟨n + 1, hn⟩)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (acc hO c n (Nat.lt_of_succ_lt hn))

/-- `acc` after a later point, one step. -/
theorem acc_pos (hO : Ok m) (c : Dev nD) (t : Fin (cfgM m hO).N) (ht : t.val ≠ 0) :
    acc m hO c t.val t.isLt = step (grid0.coords t) (lenAt (tbl m) (grid0.coords t)) (iblk m hO c 0 t) (iblk m hO c 1 t) (iblk m hO c 2 t) (iblk m hO c 3 t) (iblk m hO c 4 t) (acc m hO c (t.val - 1) (Nat.lt_of_le_of_lt (Nat.sub_le _ _) t.isLt)) := by
  obtain ⟨n, hn⟩ := t
  cases n with
  | zero => exact absurd rfl ht
  | succ n => rfl

/-- The proof data of the pipeline on core `c`: the arrays as the region finds them; after the body at point `t` each
    input's buffer at its block and the output's at `acc`; the invariant and the table's half passing through; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => acc m hO c t.val t.isLt
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- The body leaves this window's buffer as the proof data say. -/
theorem after0_1 (hO : Ok m) (c : Dev nD) (t : Fin (cfgM m hO).N) : (dats m hO 0 c).after 1 t = iblk m hO c 1 t := by dsimp only [dats]; try rfl
/-- The body leaves this window's buffer as the proof data say. -/
theorem after0_2 (hO : Ok m) (c : Dev nD) (t : Fin (cfgM m hO).N) : (dats m hO 0 c).after 2 t = iblk m hO c 2 t := by dsimp only [dats]; try rfl
/-- The body leaves this window's buffer as the proof data say. -/
theorem after0_3 (hO : Ok m) (c : Dev nD) (t : Fin (cfgM m hO).N) : (dats m hO 0 c).after 3 t = iblk m hO c 3 t := by dsimp only [dats]; try rfl
/-- The body leaves this window's buffer as the proof data say. -/
theorem after0_4 (hO : Ok m) (c : Dev nD) (t : Fin (cfgM m hO).N) : (dats m hO 0 c).after 4 t = iblk m hO c 4 t := by dsimp only [dats]; try rfl
/-- The body leaves this window's buffer as the proof data say. -/
theorem after0_5 (hO : Ok m) (c : Dev nD) (t : Fin (cfgM m hO).N) : (dats m hO 0 c).after 5 t = (acc m hO c t.val t.isLt) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- This input's buffer holds its block at every point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- This input's buffer holds its block at every point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- This input's buffer holds its block at every point. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- This input's buffer holds its block at every point. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- After the first point the output's buffer is never fresh: the first point stores it, and it is written back at the last point only. -/
theorem fresh5 (hO : Ok m) : ∀ n, n + 1 < 384 → (cfgM m hO).fresh 5 (n + 1) = false
  | 0, h => by
    have hN : 0 < (cfgM m hO).N := by rw [show (cfgM m hO).N = 384 from N_0]; omega
    rw [Cfg.fresh_succ _ 5 0 hN]
    have hi : (cfgM m hO).idle 5 ((cfgM m hO).grid.coords ⟨0, hN⟩) = false :=
      Bool.eq_false_iff.mpr fun h => ((idle5_iff (adm m hO) _).mp h).1 ((cond1_iff ⟨0, hN⟩).mpr rfl)
    have hf : ((cfgM m hO).win 5).flush ⟨0, hN⟩ = false :=
      Bool.eq_false_iff.mpr fun h => by have := (flush0_5 (adm m hO) ⟨0, hN⟩).mp h; simp at this
    rw [hi, hf]; rfl
  | n + 1, h => by
    have hN : n + 1 < (cfgM m hO).N := by rw [show (cfgM m hO).N = 384 from N_0]; omega
    have hf : ((cfgM m hO).win 5).flush ⟨n + 1, hN⟩ = false :=
      Bool.eq_false_iff.mpr fun h => by have := (flush0_5 (adm m hO) ⟨n + 1, hN⟩).mp h; simp only at this; omega
    rw [Cfg.fresh_succ _ 5 (n + 1) hN, hf, fresh5 hO n (by omega), Bool.and_false]; rfl

/-- After the first point the body finds in the output's buffer the accumulator the point before left. -/
theorem before0_5 (hO : Ok m) (c : Dev nD) (t : Fin (cfgM m hO).N) (ht : t.val ≠ 0) (d) :
    (dats m hO 0 c).before 5 t d = acc m hO c (t.val - 1) (Nat.lt_of_le_of_lt (Nat.sub_le _ _) t.isLt) := by
  have hN : t.val < 384 := lt_of_lt_of_eq t.isLt (show (cfgM m hO).N = 384 from N_0)
  rw [Dat.before_out_traj (dats m hO 0 c) 5 rfl (fun _ _ => rfl) (fun t ht hi _ => by
    obtain ⟨h1, h2, h3⟩ := (idle5_iff (adm m hO) _).mp hi
    rw [after0_5, after0_5, acc_pos m hO c t ht]
    exact step_idle _ _ _ _ _ _ _ _ h1 h2 h3) t.val t rfl d]
  have hfr : (cfgM m hO).fresh 5 t.val = false := by
    obtain ⟨n, hn⟩ := Nat.exists_eq_succ_of_ne_zero ht
    rw [hn]; exact fresh5 m hO n (by omega)
  rw [hfr, if_neg Bool.false_ne_true, after0_5]

/-- So one step of whatever the body finds is the accumulator after the point. -/
theorem step_before (hO : Ok m) (c : Dev nD) (t : Fin (cfgM m hO).N) (d) :
    step (grid0.coords t) (lenAt (tbl m) (grid0.coords t)) (iblk m hO c 0 t) (iblk m hO c 1 t) (iblk m hO c 2 t) (iblk m hO c 3 t) (iblk m hO c 4 t) ((dats m hO 0 c).before 5 t d)
      = acc m hO c t.val t.isLt := by
  by_cases ht : t.val = 0
  · obtain ⟨n, hn⟩ := t
    obtain rfl : n = 0 := ht
    exact step_first _ _ _ _ _ _ _ _ _ ((cond1_iff ⟨0, hn⟩).mpr rfl)
  · rw [before0_5 m hO c t ht d, acc_pos m hO c t ht]

/-! ## The body obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (dats m hO 0 c).leavesExact 5 t)

/-- One step of what the body found is what it must leave in the output's buffer: at an idle point the buffer as found, elsewhere the accumulator. -/
theorem leaves5 (hO : Ok m) (c : Dev nD) (t : Fin (cfgM m hO).N) (d) :
    owns (c : Thread nD τ) (ms0_5 m hO t) fullShare (step (grid0.coords t) (lenAt (tbl m) (grid0.coords t)) (iblk m hO c 0 t) (iblk m hO c 1 t) (iblk m hO c 2 t) (iblk m hO c 3 t) (iblk m hO c 4 t) ((dats m hO 0 c).before 5 t d))
      ⊢ ((dats m hO 0 c).leavesExact 5 t : sProp 𝕄) := by
  by_cases hi : (cfgM m hO).idle 5 ((cfgM m hO).grid.coords t) = true
  · by_cases hf : ((cfgM m hO).win 5).flush t = true
    · rw [step_before]
      unfold Dat.leavesExact
      rw [hi, hf]
      dsimp only
      rw [after0_5]
      exact .rfl
    · rw [Dat.leavesExact_idle _ 5 t hi (Bool.eq_false_iff.mpr hf)]
      obtain ⟨h1, h2, h3⟩ := (idle5_iff (adm m hO) _).mp hi
      rw [show step (grid0.coords t) (lenAt (tbl m) (grid0.coords t)) (iblk m hO c 0 t) (iblk m hO c 1 t) (iblk m hO c 2 t) (iblk m hO c 3 t) (iblk m hO c 4 t) ((dats m hO 0 c).before 5 t d)
        = (dats m hO 0 c).before 5 t d from step_idle _ _ _ _ _ _ _ _ h1 h2 h3]
      iintro H; iexists d; iexact H
  · rw [step_before]
    unfold Dat.leavesExact
    rw [Bool.eq_false_iff.mpr hi]
    dsimp only
    rw [after0_5]
    exact .rfl

set_option maxHeartbeats 800000 in
/-- The body at any point: the inputs' buffers hold their blocks, so the body's triple applies; the invariant passes through. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩⟩
  iapply (body_triple c (grid0.coords t) _ (hs0_0 m hO t) _ (hs0_1 m hO t) _ (hs0_2 m hO t) _ (hs0_3 m hO t) _ (hs0_4 m hO t) _ (hs0_5 m hO t) (iblk m hO c 0 t) (iblk m hO c 1 t) (iblk m hO c 2 t) (iblk m hO c 3 t) (iblk m hO c 4 t) (tbl m 0) ((dats m hO 0 c).before 5 t d5) Set.univ _)
  isplitl [H0]; · iexact H0
  isplitl [H1]; · iexact H1
  isplitl [H2]; · iexact H2
  isplitl [H3]; · iexact H3
  isplitl [H4]; · iexact H4
  isplitl [H5]; · iexact H5
  isplitl [HT0]; · iexact HT0
  rw [lenRd_eq]
  iintro ⟨H0, H1, H2, H3, H4, H5, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  iapply (leaves5 m hO c t d5); iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame of the kernel: at any arguments, the program terminates with the argument arrays unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel.Gen

end
-- ==== Proof.IdealRun.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table of lengths as the body is handed it: its whole buffer as a memref, -/
abbrev tbM : Memref sig .tc .smem S3 .i32 := Memref.whole main_arg5
/-- and that memref is whole. -/
abbrev htbM : tbM.IsWhole := Memref.isWhole_whole _

/-- The table's buffer on core `c`: its contents type, -/
abbrev TbBuf (c : Dev nD) {S : Shape} {e : EltTy} (M : Memref sig .tc .smem S e) : Type := Buf (Elt F) (M.view.loc (c : Thread nD τ))
/-- and it held at half the full share at `f` (the pipeline keeps the other half). -/
abbrev tbPt (c : Dev nD) {S : Shape} {e : EltTy} (M : Memref sig .tc .smem S e) (f : TbBuf (F := F) c M) : sProp 𝕄 :=
  M.view.loc (c : Thread nD τ) ↦{fullShare.right} f

/-- The word the body loads from the table at the grid point `i`: the length of the point's batch. -/
def lenRd (c : Dev nD) (i : grid0.Coords) (T : TbBuf (F := F) c tbM) : Elt F .i32 :=
  View.readAt (Elt F) tbM.view (Rect.unit (s := S3) (k0_off1 i) S1.size (k0_off1_inb i)).toLoadRect T (Shape.Idx.first (numel1_S1.symm ▸ Nat.one_pos))

/-- A whole-block store leaves its payload, whatever was stored before it; -/
theorem read_full2 (v : View sig .tc .vmem S384x320 .f32) (f : v.ty.Contents (Elt F)) (w : S384x320.Idx → Elt F .f32) (L : List (View.Piece (Elt F) S384x320 .f32)) :
    v.read (Elt F) (v.writes (Elt F) f (⟨Rect.unit (s := S384x320) ![0, 0] S384x320.size inb_S384x320_S384x320_0_0, w⟩ :: L)) = w :=
  View.read_writes_full v f _ w L
/-- a whole-block load after such a store reads the payload; -/
theorem readCov_full2 (v : View sig .tc .vmem S384x320 .f32) (w : S384x320.Idx → Elt F .f32) (L : List (View.Piece (Elt F) S384x320 .f32)) :
    v.readCov (⟨Rect.unit (s := S384x320) ![0, 0] S384x320.size inb_S384x320_S384x320_0_0, w⟩ :: L) (Rect.unit (s := S384x320) ![0, 0] S384x320.size inb_S384x320_S384x320_0_0).toLoadRect = w :=
  View.readCov_full v _ _ w L
/-- and a whole-block load of what a buffer holds reads what the buffer reads. -/
theorem readAt_full2 (v : View sig .tc .vmem S384x320 .f32) (f : v.ty.Contents (Elt F)) :
    v.readAt (Elt F) (Rect.unit (s := S384x320) ![0, 0] S384x320.size inb_S384x320_S384x320_0_0).toLoadRect f = v.read (Elt F) f := View.readAt_full v f _
/-- A read of this whole staging buffer is its contents. -/
theorem readAt_full3a (v : View sig .tc .vmem S1x2048x384 .fp8e4m3) (f : v.ty.Contents (Elt F)) :
    v.readAt (Elt F) (Rect.unit (s := S1x2048x384) ![0, 0, 0] S1x2048x384.size inb_S1x2048x384_S1x2048x384_0_0_0).toLoadRect f = v.read (Elt F) f := View.readAt_full v f _
/-- A read of this whole staging buffer is its contents. -/
theorem readAt_full3b (v : View sig .tc .vmem S1x16x384 .f32) (f : v.ty.Contents (Elt F)) :
    v.readAt (Elt F) (Rect.unit (s := S1x16x384) ![0, 0, 0] S1x16x384.size inb_S1x16x384_S1x16x384_0_0_0).toLoadRect f = v.read (Elt F) f := View.readAt_full v f _
/-- A read of this whole staging buffer is its contents. -/
theorem readAt_full3c (v : View sig .tc .vmem S1x2048x320 .fp8e5m2) (f : v.ty.Contents (Elt F)) :
    v.readAt (Elt F) (Rect.unit (s := S1x2048x320) ![0, 0, 0] S1x2048x320.size inb_S1x2048x320_S1x2048x320_0_0_0).toLoadRect f = v.read (Elt F) f := View.readAt_full v f _
/-- A read of this whole staging buffer is its contents. -/
theorem readAt_full3d (v : View sig .tc .vmem S1x16x320 .f32) (f : v.ty.Contents (Elt F)) :
    v.readAt (Elt F) (Rect.unit (s := S1x16x320) ![0, 0, 0] S1x16x320.size inb_S1x16x320_S1x16x320_0_0_0).toLoadRect f = v.read (Elt F) f := View.readAt_full v f _

/-- What one grid point does to the accumulator `xo`: the first point starts from the main gradient `x4`; a full block
    (`k0_cond2`) adds its product; a partial block (`k0_cond3`) adds its masked product; any other leaves it. -/
def step (i : grid0.Coords) (w : Elt F .i32) (x0 : Vec F S1x2048x384 .fp8e4m3) (x1 : Vec F S1x16x384 .f32) (x2 : Vec F S1x2048x320 .fp8e5m2)
    (x3 : Vec F S1x16x320 .f32) (x4 xo : Vec F S384x320 .f32) : Vec F S384x320 .f32 :=
  let a := if k0_cond1 i = 1#1 then x4 else xo
  let b := if k0_cond2 i w = 1#1 then k0_pay1 x0 x1 x2 x3 a else a
  if k0_cond3 i w = 1#1 then k0_pay2 i w x0 x1 x2 x3 b else b

set_option maxHeartbeats 4000000 in
/-- The kernel's body on any whole staging buffers: from the inputs' blocks, the accumulator at `xo` and the table, to the same inputs
    and table with the accumulator at `step` of it. -/
theorem body_triple (c : Dev nD) (i : grid0.Coords) (arg3 : Memref sig .tc .vmem S1x2048x384 .fp8e4m3) (harg3 : arg3.IsWhole) (arg4 : Memref sig .tc .vmem S1x16x384 .f32) (harg4 : arg4.IsWhole) (arg5 : Memref sig .tc .vmem S1x2048x320 .fp8e5m2) (harg5 : arg5.IsWhole) (arg6 : Memref sig .tc .vmem S1x16x320 .f32) (harg6 : arg6.IsWhole) (arg7 : Memref sig .tc .vmem S384x320 .f32) (harg7 : arg7.IsWhole) (arg8 : Memref sig .tc .vmem S384x320 .f32) (harg8 : arg8.IsWhole)
    (x0 : Vec F S1x2048x384 .fp8e4m3) (x1 : Vec F S1x16x384 .f32) (x2 : Vec F S1x2048x320 .fp8e5m2) (x3 : Vec F S1x16x320 .f32) (x4 : Vec F S384x320 .f32) (T : TbBuf (F := F) c tbM) (xo : Vec F S384x320 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo ∗ tbPt c tbM T
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (step i (lenRd c i T) x0 x1 x2 x3 x4 xo) ∗ tbPt c tbM T) -∗ K ⟨⟩))
          ⊢ wp frame (wpE (defs₀ (F := F)) Variants.none c none) E (cc0__body i tbM htbM arg3 harg3 arg4 harg4 arg5 harg5 arg6 harg6 arg7 harg7 arg8 harg8) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, HT0, Hk⟩
    by_cases hc1 : k0_cond1 i = 1#1 <;> by_cases hc2 : k0_cond2 i (lenRd c i T) = 1#1 <;> by_cases hc3 : k0_cond3 i (lenRd c i T) = 1#1
    all_goals
      have hst : step i (lenRd c i T) x0 x1 x2 x3 x4 xo = step i (lenRd c i T) x0 x1 x2 x3 x4 xo := rfl
      conv_rhs at hst => unfold step
      simp only [hc1, hc2, hc3, if_true, if_false, ite_true, ite_false] at hst
      rw [hst]
      clear hst
      unfold lenRd at hc2 hc3
      sl_exec (disch := first | sl_exact hc1 | sl_exact hc2 | sl_exact hc3)
      sl_step
      iapply Hk
      isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; swap; · iexact H5
        ipureintro
        first
        | refine (read_full2 _ _ _ _).trans ?_
          sl_unfold_words
          repeat rw [readAt_full3a]
          repeat rw [readAt_full3b]
          repeat rw [readAt_full3c]
          repeat rw [readAt_full3d]
          repeat rw [readCov_full2]
          repeat rw [readAt_full2]
          rw [hf0, hf1, hf2, hf3]
          first | rw [hf4] | rw [hf5]
          first | done | rfl
        | refine (read_full2 _ _ _ _).trans ?_
          sl_unfold_words
          rw [readAt_full2, hf4]
        | exact hf5
      iexact HT0

end Cert.KernelIdeal.Gen

end
-- ==== Proof.IdealFrame.lean ====
module

public import proofs.«01_k».proof.Proof.IdealRun
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 4 (operand 5 (%arg4)) is fetched at the first point only, at any contents of the tables (its index map reads none). -/
theorem fetch0_4 (a : (pcfg0 (F := F)).Adm) : ∀ t : Fin (cfg0 a).N, ((cfg0 a).win 4).fetch t = true ↔ t.val % 384 = 0 :=
  (fun t => Pipeline.Window.fetchOf_const cc0_transform_4 (fun _ _ => rfl) (n := 384) (by decide) t : ∀ t : Fin grid0.N, Pipeline.Window.fetchOf grid0 false cc0_transform_4 t = true ↔ t.val % 384 = 0)
/-- Window 5 (result 0 (%0)) is written back at the last point only, at any contents of the tables (its index map reads none). -/
theorem flush0_5 (a : (pcfg0 (F := F)).Adm) : ∀ t : Fin (cfg0 a).N, ((cfg0 a).win 5).flush t = true ↔ t.val % 384 = 383 :=
  (fun t => Pipeline.Window.flushOf_const cc0_transform_5 (fun _ _ => rfl) (n := 384) (by decide) rfl t : ∀ t : Fin grid0.N, Pipeline.Window.flushOf grid0 true cc0_transform_5 t = true ↔ t.val % 384 = 383)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The region finds this argument as launched. -/
theorem V_main_arg0 (c : Dev nD) : V m c main_arg0 = m ((c : Thread nD τ).loc main_arg0) := rfl
/-- The region finds this argument as launched. -/
theorem V_main_arg1 (c : Dev nD) : V m c main_arg1 = m ((c : Thread nD τ).loc main_arg1) := rfl
/-- The region finds this argument as launched. -/
theorem V_main_arg2 (c : Dev nD) : V m c main_arg2 = m ((c : Thread nD τ).loc main_arg2) := rfl
/-- The region finds this argument as launched. -/
theorem V_main_arg3 (c : Dev nD) : V m c main_arg3 = m ((c : Thread nD τ).loc main_arg3) := rfl
/-- The region finds this argument as launched. -/
theorem V_main_arg4 (c : Dev nD) : V m c main_arg4 = m ((c : Thread nD τ).loc main_arg4) := rfl
/-- The region finds this argument as launched. -/
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`). It holds at every contents (`ok_all`). -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (by decide : main_arg5 ∈ Pipeline.restRefs sig spec0)).trans (V_main_arg5 m c)⟩) h

/-- Each window's current staging memref at point `t`, spelled as the pipeline passes it (`bodyAt0`), and its wholeness. -/
abbrev ms0_0 (hO : Ok m) (t : Fin (cfgM m hO).N) : Memref sig .tc .vmem S1x2048x384 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x16x384 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x320 .fp8e5m2 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x16x320 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S384x320 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S384x320 .f32 := spec0_5.stage ((cfgM m hO).slots t 5)
abbrev hs0_5 (hO : Ok m) (t : Fin (cfgM m hO).N) : (ms0_5 m hO t).IsWhole := hstage0_5 (((cfgM m hO).slots t 5).cast nbuf0_5)

/-! ## The index maps: every block inside its array, whatever the lengths -/

/-- The token block the index maps stage at the grid point `(b, n)`, from the length word `w` of batch `b`: `n`, or the
    last block the length reaches if `n` is beyond it. -/
def blkOf (w : BitVec 32) (n : ℕ) : ℕ :=
  (Scalar.minsi (BitVec.ofNat 32 n) (Scalar.maxsi (Scalar.subi (Scalar.divsi (Scalar.addi w 2047#32) 2048#32) 1#32) 0#32)).toNat

/-- It is never beyond `n`. -/
theorem blkOf_le (w : BitVec 32) (n : ℕ) (hn : n < 128) : blkOf w n ≤ n := by
  unfold blkOf
  generalize Scalar.subi (Scalar.divsi (Scalar.addi w 2047#32) 2048#32) 1#32 = x
  have h0 : 0 ≤ (Scalar.maxsi x 0#32).toInt := by
    show 0 ≤ (if (0#32).slt x then x else 0#32).toInt
    split
    · next h => rw [BitVec.slt_iff_toInt_lt] at h; exact le_of_lt h
    · simp
  generalize Scalar.maxsi x 0#32 = y at h0
  have hN : (BitVec.ofNat 32 n).toNat = n := by rw [BitVec.toNat_ofNat]; omega
  have hI : (BitVec.ofNat 32 n).toInt = n := by rw [BitVec.toInt_eq_toNat_of_lt (by omega), hN]
  show (if (BitVec.ofNat 32 n).slt y then BitVec.ofNat 32 n else y).toNat ≤ n
  split
  · rw [hN]
  · next h =>
    rw [BitVec.slt_iff_toInt_lt, hI] at h
    have hy : y.toInt = y.toNat := by
      rw [BitVec.toInt_eq_toNat_cond] at h0 ⊢
      split at h0 <;> omega
    omega

/-- The length word the index maps read at the point `i`. -/
def lenAt (pf : pre0.Contents (Elt F)) (i : grid0.Coords) : BitVec 32 := pf.atD 0 (k0_off1 i)

/-- The body reads the table at the point's batch. -/
theorem off1_eq (i : grid0.Coords) : k0_off1 i = ![(i 0).val] := by
  have r_i0 : (i 0).val < 3 := (i 0).isLt
  unfold k0_off1
  show ![(BitVec.ofNat 32 (i 0).val).toNat] = _
  rw [BitVec.toNat_ofNat, Nat.mod_eq_of_lt (by omega)]

/-- The same length, as the index maps read it. -/
theorem lenAt_eq (pf : pre0.Contents (Elt F)) (i : grid0.Coords) :
    lenAt pf i = pf.at 0 (Rect.unit (s := S3) (k0_off1 i) S1.size (k0_off1_inb i)) numel1_S1 := by
  unfold lenAt Pipeline.Prefetch.Contents.atD
  split
  · refine congrArg (pf 0) ?_
    funext a
    match a with
    | ⟨0, _⟩ => exact Fin.ext (Nat.add_zero _).symm
  · next h =>
    exact (h fun a => by match a with | ⟨0, _⟩ => exact k0_off1_inb i 0).elim

/-- The word the body loads is the one the index maps read. -/
theorem lenRd_eq (c : Dev nD) (i : grid0.Coords) (pf : pre0.Contents (Elt F)) : lenRd c i (pf 0) = lenAt pf i := by
  rw [lenAt_eq]; rfl

/-- This input's index map at a point, in closed form. -/
theorem transform_0_eq (pf : pre0.Contents (Elt F)) (i : grid0.Coords) :
    cc0_transform_0 k0_off1_inb numel1_S1 pf i = ![(i 0).val, blkOf (lenAt pf i) (i 1).val, 0] := by
  have r_i0 : (i 0).val < 3 := (i 0).isLt
  rw [lenAt_eq]
  show ![(BitVec.ofNat 32 (i 0).val).toNat, _, _] = _
  rw [BitVec.toNat_ofNat, Nat.mod_eq_of_lt (by omega)]
  rfl
/-- This input's index map at a point, in closed form. -/
theorem transform_1_eq (pf : pre0.Contents (Elt F)) (i : grid0.Coords) :
    cc0_transform_1 k0_off1_inb numel1_S1 pf i = ![(i 0).val, blkOf (lenAt pf i) (i 1).val, 0] := transform_0_eq pf i
/-- This input's index map at a point, in closed form. -/
theorem transform_2_eq (pf : pre0.Contents (Elt F)) (i : grid0.Coords) :
    cc0_transform_2 k0_off1_inb numel1_S1 pf i = ![(i 0).val, blkOf (lenAt pf i) (i 1).val, 0] := transform_0_eq pf i
/-- This input's index map at a point, in closed form. -/
theorem transform_3_eq (pf : pre0.Contents (Elt F)) (i : grid0.Coords) :
    cc0_transform_3 k0_off1_inb numel1_S1 pf i = ![(i 0).val, blkOf (lenAt pf i) (i 1).val, 0] := transform_0_eq pf i

/-- A rectangle whose second-minor extent and offset are multiples of the packing has whole words. -/
theorem words_of_dvd {s : Shape} {p : ℕ} (r : Rect s) (h2 : 2 ≤ s.rank) (hs : r.stride (s.rowAx h2) = 1)
    (ho : p ∣ r.off (s.rowAx h2)) (hz : p ∣ r.size (s.rowAx h2)) : r.WholeWords p :=
  Rect.PackedRows.wholeWords (.inr ⟨h2, hs, .inl ⟨ho, hz⟩⟩)

/-- The pipeline's side condition holds at every contents of the table of lengths. -/
theorem ok_all (pf : pre0.Contents (Elt F)) : ok0 pf := by
  have hb : ∀ i : grid0.Coords, (i 0).val < 3 ∧ blkOf (lenAt pf i) (i 1).val < 128 := fun i =>
    ⟨(i 0).isLt, lt_of_le_of_lt (blkOf_le _ _ (i 1).isLt) (i 1).isLt⟩
  refine ⟨fun i => ?_, fun i => ?_, fun i => ?_, fun i => ?_⟩ <;> obtain ⟨h0, h1⟩ := hb i
  · refine ⟨?_, .inr ?_⟩
    · rw [transform_0_eq]; intro a
      match a with
      | ⟨0, _⟩ => show ((i 0).val + 1) * 1 ≤ 3; omega
      | ⟨1, _⟩ => show (blkOf (lenAt pf i) (i 1).val + 1) * 2048 ≤ 262144; omega
      | ⟨2, _⟩ => show (0 + 1) * 384 ≤ 384; omega
    · have h2 : 2 ≤ S3x262144x384.rank := by decide
      have hd : EltTy.packing .fp8e4m3 ∣ S1x2048x384.size (S3x262144x384.rowAx h2) := by decide +revert
      exact words_of_dvd _ h2 rfl (Dvd.dvd.mul_left hd _) hd
  · refine ⟨?_, .inl rfl⟩
    rw [transform_1_eq]; intro a
    match a with
    | ⟨0, _⟩ => show ((i 0).val + 1) * 1 ≤ 3; omega
    | ⟨1, _⟩ => show (blkOf (lenAt pf i) (i 1).val + 1) * 16 ≤ 2048; omega
    | ⟨2, _⟩ => show (0 + 1) * 384 ≤ 384; omega
  · refine ⟨?_, .inr ?_⟩
    · rw [transform_2_eq]; intro a
      match a with
      | ⟨0, _⟩ => show ((i 0).val + 1) * 1 ≤ 3; omega
      | ⟨1, _⟩ => show (blkOf (lenAt pf i) (i 1).val + 1) * 2048 ≤ 262144; omega
      | ⟨2, _⟩ => show (0 + 1) * 320 ≤ 320; omega
    · have h2 : 2 ≤ S3x262144x320.rank := by decide
      have hd : EltTy.packing .fp8e5m2 ∣ S1x2048x320.size (S3x262144x320.rowAx h2) := by decide +revert
      exact words_of_dvd _ h2 rfl (Dvd.dvd.mul_left hd _) hd
  · refine ⟨?_, .inl rfl⟩
    rw [transform_3_eq]; intro a
    match a with
    | ⟨0, _⟩ => show ((i 0).val + 1) * 1 ≤ 3; omega
    | ⟨1, _⟩ => show (blkOf (lenAt pf i) (i 1).val + 1) * 16 ≤ 2048; omega
    | ⟨2, _⟩ => show (0 + 1) * 320 ≤ 320; omega

/-! ## The branch conditions -/

/-- The first branch is taken at the first grid point only. -/
theorem cond1_iff : ∀ t : Fin grid0.N, k0_cond1 (grid0.coords t) = 1#1 ↔ t.val = 0 := fun t => by
  have ht : t.val < 384 := Nat.lt_of_lt_of_eq t.isLt N_0
  have e0 : (grid0.coords t 0).val = t.val / 128 % 3 := Pipeline.Grid.coords_val t 0 (by decide) rfl
  have e1 : (grid0.coords t 1).val = t.val / 1 % 128 := Pipeline.Grid.coords_val t 1 (by decide) rfl
  simp only [k0_cond1, e0, e1]
  word_cmp

/-- `step` where no branch is taken. -/
theorem step_idle (i : grid0.Coords) (w : Elt F .i32) (x0 : Vec F S1x2048x384 .fp8e4m3) (x1 : Vec F S1x16x384 .f32) (x2 : Vec F S1x2048x320 .fp8e5m2)
    (x3 : Vec F S1x16x320 .f32) (x4 xo : Vec F S384x320 .f32) (h1 : ¬k0_cond1 i = 1#1) (h2 : ¬k0_cond2 i w = 1#1) (h3 : ¬k0_cond3 i w = 1#1) :
    step i w x0 x1 x2 x3 x4 xo = xo := by
  unfold step; simp only [if_neg h1, if_neg h2, if_neg h3]

/-- `step` at the first point does not read the accumulator. -/
theorem step_first (i : grid0.Coords) (w : Elt F .i32) (x0 : Vec F S1x2048x384 .fp8e4m3) (x1 : Vec F S1x16x384 .f32) (x2 : Vec F S1x2048x320 .fp8e5m2)
    (x3 : Vec F S1x16x320 .f32) (x4 xo xo' : Vec F S384x320 .f32) (h1 : k0_cond1 i = 1#1) :
    step i w x0 x1 x2 x3 x4 xo = step i w x0 x1 x2 x3 x4 xo' := by
  unfold step; simp only [if_pos h1]

/-- The output window is idle where no branch is taken, and only there. -/
theorem idle5_iff (a : (pcfg0 (F := F)).Adm) (i : grid0.Coords) :
    (cfg0 a).idle 5 i = true ↔ ¬k0_cond1 i = 1#1 ∧ ¬k0_cond2 i (lenAt a.1 i) = 1#1 ∧ ¬k0_cond3 i (lenAt a.1 i) = 1#1 := by
  show (!(k0_cond1 i == 1#1) && !(k0_cond2 i (lenAt a.1 i) == 1#1) && !(k0_cond3 i (lenAt a.1 i) == 1#1)) = true ↔ _
  simp only [Bool.and_eq_true, Bool.not_eq_true', beq_eq_false_iff_ne, ne_eq, and_assoc]

/-! ## The accumulator after each point -/

/-- The accumulator after position `n` of the grid: `step` of the one before. -/
def acc (hO : Ok m) (c : Dev nD) : (n : ℕ) → n < (cfgM m hO).N → Vec F S384x320 .f32
  | 0, hn => step (grid0.coords ⟨0, hn⟩) (lenAt (tbl m) (grid0.coords ⟨0, hn⟩)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 4 ⟨0, hn⟩)
  | n + 1, hn => step (grid0.coords ⟨n + 1, hn⟩) (lenAt (tbl m) (grid0.coords ⟨n + 1, hn⟩)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (acc hO c n (Nat.lt_of_succ_lt hn))

/-- `acc` after a later point, one step. -/
theorem acc_pos (hO : Ok m) (c : Dev nD) (t : Fin (cfgM m hO).N) (ht : t.val ≠ 0) :
    acc m hO c t.val t.isLt = step (grid0.coords t) (lenAt (tbl m) (grid0.coords t)) (iblk m hO c 0 t) (iblk m hO c 1 t) (iblk m hO c 2 t) (iblk m hO c 3 t) (iblk m hO c 4 t) (acc m hO c (t.val - 1) (Nat.lt_of_le_of_lt (Nat.sub_le _ _) t.isLt)) := by
  obtain ⟨n, hn⟩ := t
  cases n with
  | zero => exact absurd rfl ht
  | succ n => rfl

/-- The proof data of the pipeline on core `c`: the arrays as the region finds them; after the body at point `t` each
    input's buffer at its block and the output's at `acc`; the invariant and the table's half passing through; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => acc m hO c t.val t.isLt
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- The body leaves this window's buffer as the proof data say. -/
theorem after0_1 (hO : Ok m) (c : Dev nD) (t : Fin (cfgM m hO).N) : (dats m hO 0 c).after 1 t = iblk m hO c 1 t := by dsimp only [dats]; try rfl
/-- The body leaves this window's buffer as the proof data say. -/
theorem after0_2 (hO : Ok m) (c : Dev nD) (t : Fin (cfgM m hO).N) : (dats m hO 0 c).after 2 t = iblk m hO c 2 t := by dsimp only [dats]; try rfl
/-- The body leaves this window's buffer as the proof data say. -/
theorem after0_3 (hO : Ok m) (c : Dev nD) (t : Fin (cfgM m hO).N) : (dats m hO 0 c).after 3 t = iblk m hO c 3 t := by dsimp only [dats]; try rfl
/-- The body leaves this window's buffer as the proof data say. -/
theorem after0_4 (hO : Ok m) (c : Dev nD) (t : Fin (cfgM m hO).N) : (dats m hO 0 c).after 4 t = iblk m hO c 4 t := by dsimp only [dats]; try rfl
/-- The body leaves this window's buffer as the proof data say. -/
theorem after0_5 (hO : Ok m) (c : Dev nD) (t : Fin (cfgM m hO).N) : (dats m hO 0 c).after 5 t = (acc m hO c t.val t.isLt) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- This input's buffer holds its block at every point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- This input's buffer holds its block at every point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- This input's buffer holds its block at every point. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- This input's buffer holds its block at every point. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- After the first point the output's buffer is never fresh: the first point stores it, and it is written back at the last point only. -/
theorem fresh5 (hO : Ok m) : ∀ n, n + 1 < 384 → (cfgM m hO).fresh 5 (n + 1) = false
  | 0, h => by
    have hN : 0 < (cfgM m hO).N := by rw [show (cfgM m hO).N = 384 from N_0]; omega
    rw [Cfg.fresh_succ _ 5 0 hN]
    have hi : (cfgM m hO).idle 5 ((cfgM m hO).grid.coords ⟨0, hN⟩) = false :=
      Bool.eq_false_iff.mpr fun h => ((idle5_iff (adm m hO) _).mp h).1 ((cond1_iff ⟨0, hN⟩).mpr rfl)
    have hf : ((cfgM m hO).win 5).flush ⟨0, hN⟩ = false :=
      Bool.eq_false_iff.mpr fun h => by have := (flush0_5 (adm m hO) ⟨0, hN⟩).mp h; simp at this
    rw [hi, hf]; rfl
  | n + 1, h => by
    have hN : n + 1 < (cfgM m hO).N := by rw [show (cfgM m hO).N = 384 from N_0]; omega
    have hf : ((cfgM m hO).win 5).flush ⟨n + 1, hN⟩ = false :=
      Bool.eq_false_iff.mpr fun h => by have := (flush0_5 (adm m hO) ⟨n + 1, hN⟩).mp h; simp only at this; omega
    rw [Cfg.fresh_succ _ 5 (n + 1) hN, hf, fresh5 hO n (by omega), Bool.and_false]; rfl

/-- After the first point the body finds in the output's buffer the accumulator the point before left. -/
theorem before0_5 (hO : Ok m) (c : Dev nD) (t : Fin (cfgM m hO).N) (ht : t.val ≠ 0) (d) :
    (dats m hO 0 c).before 5 t d = acc m hO c (t.val - 1) (Nat.lt_of_le_of_lt (Nat.sub_le _ _) t.isLt) := by
  have hN : t.val < 384 := lt_of_lt_of_eq t.isLt (show (cfgM m hO).N = 384 from N_0)
  rw [Dat.before_out_traj (dats m hO 0 c) 5 rfl (fun _ _ => rfl) (fun t ht hi _ => by
    obtain ⟨h1, h2, h3⟩ := (idle5_iff (adm m hO) _).mp hi
    rw [after0_5, after0_5, acc_pos m hO c t ht]
    exact step_idle _ _ _ _ _ _ _ _ h1 h2 h3) t.val t rfl d]
  have hfr : (cfgM m hO).fresh 5 t.val = false := by
    obtain ⟨n, hn⟩ := Nat.exists_eq_succ_of_ne_zero ht
    rw [hn]; exact fresh5 m hO n (by omega)
  rw [hfr, if_neg Bool.false_ne_true, after0_5]

/-- So one step of whatever the body finds is the accumulator after the point. -/
theorem step_before (hO : Ok m) (c : Dev nD) (t : Fin (cfgM m hO).N) (d) :
    step (grid0.coords t) (lenAt (tbl m) (grid0.coords t)) (iblk m hO c 0 t) (iblk m hO c 1 t) (iblk m hO c 2 t) (iblk m hO c 3 t) (iblk m hO c 4 t) ((dats m hO 0 c).before 5 t d)
      = acc m hO c t.val t.isLt := by
  by_cases ht : t.val = 0
  · obtain ⟨n, hn⟩ := t
    obtain rfl : n = 0 := ht
    exact step_first _ _ _ _ _ _ _ _ _ ((cond1_iff ⟨0, hn⟩).mpr rfl)
  · rw [before0_5 m hO c t ht d, acc_pos m hO c t ht]

/-! ## The body obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (dats m hO 0 c).leavesExact 5 t)

/-- One step of what the body found is what it must leave in the output's buffer: at an idle point the buffer as found, elsewhere the accumulator. -/
theorem leaves5 (hO : Ok m) (c : Dev nD) (t : Fin (cfgM m hO).N) (d) :
    owns (c : Thread nD τ) (ms0_5 m hO t) fullShare (step (grid0.coords t) (lenAt (tbl m) (grid0.coords t)) (iblk m hO c 0 t) (iblk m hO c 1 t) (iblk m hO c 2 t) (iblk m hO c 3 t) (iblk m hO c 4 t) ((dats m hO 0 c).before 5 t d))
      ⊢ ((dats m hO 0 c).leavesExact 5 t : sProp 𝕄) := by
  by_cases hi : (cfgM m hO).idle 5 ((cfgM m hO).grid.coords t) = true
  · by_cases hf : ((cfgM m hO).win 5).flush t = true
    · rw [step_before]
      unfold Dat.leavesExact
      rw [hi, hf]
      dsimp only
      rw [after0_5]
      exact .rfl
    · rw [Dat.leavesExact_idle _ 5 t hi (Bool.eq_false_iff.mpr hf)]
      obtain ⟨h1, h2, h3⟩ := (idle5_iff (adm m hO) _).mp hi
      rw [show step (grid0.coords t) (lenAt (tbl m) (grid0.coords t)) (iblk m hO c 0 t) (iblk m hO c 1 t) (iblk m hO c 2 t) (iblk m hO c 3 t) (iblk m hO c 4 t) ((dats m hO 0 c).before 5 t d)
        = (dats m hO 0 c).before 5 t d from step_idle _ _ _ _ _ _ _ _ h1 h2 h3]
      iintro H; iexists d; iexact H
  · rw [step_before]
    unfold Dat.leavesExact
    rw [Bool.eq_false_iff.mpr hi]
    dsimp only
    rw [after0_5]
    exact .rfl

set_option maxHeartbeats 800000 in
/-- The body at any point: the inputs' buffers hold their blocks, so the body's triple applies; the invariant passes through. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩⟩
  iapply (body_triple c (grid0.coords t) _ (hs0_0 m hO t) _ (hs0_1 m hO t) _ (hs0_2 m hO t) _ (hs0_3 m hO t) _ (hs0_4 m hO t) _ (hs0_5 m hO t) (iblk m hO c 0 t) (iblk m hO c 1 t) (iblk m hO c 2 t) (iblk m hO c 3 t) (iblk m hO c 4 t) (tbl m 0) ((dats m hO 0 c).before 5 t d5) Set.univ _)
  isplitl [H0]; · iexact H0
  isplitl [H1]; · iexact H1
  isplitl [H2]; · iexact H2
  isplitl [H3]; · iexact H3
  isplitl [H4]; · iexact H4
  isplitl [H5]; · iexact H5
  isplitl [HT0]; · iexact HT0
  rw [lenRd_eq]
  iintro ⟨H0, H1, H2, H3, H4, H5, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  iapply (leaves5 m hO c t d5); iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame of the kernel: at any arguments, the program terminates with the argument arrays unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.KernelIdeal.Gen

end
-- ==== Proof.Words.lean ====
module

public import proofs.«01_k».proof.Proof.IdealFrame
public import Idealize.ShloMosaic.Lib.Routing.Words
public import Idealize.ShloMosaic.Lib.WordCmp

@[expose] public section

set_option maxRecDepth 16384

noncomputable section

namespace Cert.KernelIdeal.Gen

open Idealize.ShloMosaic Idealize.ShloMosaic.Tactic

/-- The rows left at the token block `n` of a batch of length `w`, as the kernel computes them. -/
def left (w : BitVec 32) (n : ℕ) : BitVec 32 := Scalar.subi w (Scalar.muli (BitVec.ofNat 32 n) 2048#32)

/-- From the lower bound of the precondition on, they are `w - n * 2048` as integers. -/
theorem left_toInt (w : BitVec 32) (n : ℕ) (hn : n < 128) (h : -2147223552 ≤ w.toInt) :
    (left w n).toInt = w.toInt - (n : ℤ) * 2048 := by
  have e : Scalar.muli (BitVec.ofNat 32 n) 2048#32 = BitVec.ofNat 32 (n * 2048) := by
    show BitVec.ofNat 32 n * BitVec.ofNat 32 2048 = _
    apply BitVec.eq_of_toNat_eq
    simp only [BitVec.toNat_mul, BitVec.toNat_ofNat]
    omega
  have hi : (BitVec.ofNat 32 (n * 2048)).toInt = (n : ℤ) * 2048 := by
    rw [BitVec.toInt_eq_toNat_of_lt (by rw [BitVec.toNat_ofNat]; omega), BitVec.toNat_ofNat]
    omega
  have hlt : w.toInt < 2147483648 := by have := BitVec.toInt_lt (x := w); omega
  unfold left
  rw [e]
  show (w - BitVec.ofNat 32 (n * 2048)).toInt = _
  rw [BitVec.toInt_sub, hi, Int.bmod_eq_of_le (by omega) (by omega)]

/-- A bit widened to a word and tested against zero is the bit. -/
theorem widened (v : BitVec 1) : Scalar.cmpi .ne (Scalar.extui v) 0#32 = v := by
  revert v; decide

/-- The second branch is taken where a whole block is left. -/
theorem cond2_iff (i : grid0.Coords) (w : BitVec 32) : k0_cond2 i w = 1#1 ↔ 2048 ≤ (left w (i 1).val).toInt := by
  show Scalar.cmpi .ne (Scalar.extui (Scalar.cmpi .sge (left w (i 1).val) 2048#32)) 0#32 = 1#1 ↔ _
  rw [widened]
  show BitVec.ofBool ((2048#32).sle (left w (i 1).val)) = 1#1 ↔ _
  rw [WordCmp.ofBool_eq_one_iff, BitVec.sle_iff_toInt_le]
  rfl

/-- The third branch is taken where a part of a block is left. -/
theorem cond3_iff (i : grid0.Coords) (w : BitVec 32) :
    k0_cond3 i w = 1#1 ↔ 0 < (left w (i 1).val).toInt ∧ (left w (i 1).val).toInt < 2048 := by
  show Scalar.cmpi .ne (Scalar.extui (Scalar.andi (Scalar.cmpi .sgt (left w (i 1).val) 0#32) (Scalar.cmpi .slt (left w (i 1).val) 2048#32))) 0#32 = 1#1 ↔ _
  rw [widened]
  show IntOp.andi (BitVec.ofBool ((0#32).slt (left w (i 1).val))) (BitVec.ofBool ((left w (i 1).val).slt 2048#32)) = 1#1 ↔ _
  rw [WordCmp.andi_ofBool, WordCmp.ofBool_eq_one_iff, Bool.and_eq_true, BitVec.slt_iff_toInt_lt, BitVec.slt_iff_toInt_lt]
  rfl

/-- The mask of the third branch at row `x`. -/
theorem mask_iff (w : BitVec 32) (n : ℕ) (x : ℕ) (hx : x < 2048) :
    IntOp.cmpi .slt (BitVec.ofNat 32 x) (left w n) = 1#1 ↔ (x : ℤ) < (left w n).toInt := by
  show BitVec.ofBool ((BitVec.ofNat 32 x).slt (left w n)) = 1#1 ↔ _
  rw [WordCmp.ofBool_eq_one_iff, BitVec.slt_iff_toInt_lt, BitVec.toInt_eq_toNat_of_lt (by rw [BitVec.toNat_ofNat]; omega), BitVec.toNat_ofNat,
    Nat.mod_eq_of_lt (by omega)]

/-- Where rows are left at block `n`, and the length is up to the upper bound of the precondition, the index maps stage block `n`. -/
theorem blkOf_eq (w : BitVec 32) (n : ℕ) (hn : n < 128) (h : (n : ℤ) * 2048 < w.toInt) (hw : w.toInt ≤ 2147481600) : blkOf w n = n := by
  obtain ⟨L, hL⟩ : ∃ L : ℕ, w.toInt = L := ⟨w.toInt.toNat, by omega⟩
  have hwL : w = BitVec.ofNat 32 L := by
    apply BitVec.eq_of_toNat_eq
    rw [BitVec.toNat_ofNat]
    rw [BitVec.toInt_eq_toNat_cond] at hL
    have := w.isLt
    split at hL <;> omega
  unfold blkOf
  have e1 : Scalar.addi w 2047#32 = BitVec.ofNat 32 (L + 2047) := by
    rw [hwL]
    show BitVec.ofNat 32 L + BitVec.ofNat 32 2047 = _
    rw [← BitVec.ofNat_add]
  have e2 : Scalar.divsi (BitVec.ofNat 32 (L + 2047)) 2048#32 = BitVec.ofNat 32 ((L + 2047) / 2048) :=
    Routing.divsi_word .scalar (by omega) (by decide) (by decide)
  obtain ⟨q, hq⟩ : ∃ q, (L + 2047) / 2048 = q + 1 := ⟨(L + 2047) / 2048 - 1, by omega⟩
  have e3 : Scalar.subi (BitVec.ofNat 32 (q + 1)) 1#32 = BitVec.ofNat 32 q := by
    show BitVec.ofNat 32 (q + 1) - BitVec.ofNat 32 1 = _
    apply BitVec.eq_of_toNat_eq
    simp only [BitVec.toNat_sub, BitVec.toNat_ofNat]
    omega
  have hqi : (BitVec.ofNat 32 q).toInt = q := WordCmp.toInt_ofNat_of_lt (by omega)
  have hni : (BitVec.ofNat 32 n).toInt = n := WordCmp.toInt_ofNat_of_lt (by omega)
  have e4 : Scalar.maxsi (BitVec.ofNat 32 q) 0#32 = BitVec.ofNat 32 q := by
    show (if (0#32).slt (BitVec.ofNat 32 q) then BitVec.ofNat 32 q else 0#32) = _
    split
    · rfl
    · next hc =>
      rw [BitVec.slt_iff_toInt_lt, hqi] at hc
      have : q = 0 := by have : (0#32 : BitVec 32).toInt = 0 := rfl; omega
      rw [this]
  rw [e1, e2, hq, e3, e4]
  show (if (BitVec.ofNat 32 n).slt (BitVec.ofNat 32 q) then BitVec.ofNat 32 n else BitVec.ofNat 32 q).toNat = n
  split
  · exact WordCmp.toNat_ofNat_of_lt (by omega)
  · next hc =>
    rw [BitVec.slt_iff_toInt_lt, hqi, hni] at hc
    rw [WordCmp.toNat_ofNat_of_lt (by omega)]
    omega

end Cert.KernelIdeal.Gen

end
-- ==== Proof.Pay.lean ====
module

public import proofs.«01_k».proof.Proof.Gen.KernelIdeal.Skeleton
public import Idealize.ShloMosaic.Lib.Pointwise
public import Idealize.ShloMosaic.PureOps.Ideal

@[expose] public section

set_option maxRecDepth 16384

noncomputable section

namespace Cert.KernelIdeal.Gen

open Idealize.ShloMosaic Idealize.ShloMosaic.Tactic

/-- The whole-block update at an entry: the old value plus the products of the block's rows. -/
theorem pay1_apply (x0 : Vec Ideal S1x2048x384 .fp8e4m3) (x1 : Vec Ideal S1x16x384 .f32) (x2 : Vec Ideal S1x2048x320 .fp8e5m2)
    (x3 : Vec Ideal S1x16x320 .f32) (a : Vec Ideal S384x320 .f32) (j0 : Fin 384) (j1 : Fin 320) :
    @Eq EReal (k0_pay1 x0 x1 x2 x3 a (ix2 j0 j1)) ((a (ix2 j0 j1) : EReal) + ∑ x : Fin 2048, ((x0 (ix3 0 x j0) * x1 (ix3 0 ⟨x.val / 128, by omega⟩ j0) *
      (x2 (ix3 0 x j1) * x3 (ix3 0 ⟨x.val / 128, by omega⟩ j1)) : EReal))) := by
  unfold k0_pay1
  pointwise

/-- The partial-block update at an entry: the rows from the end of the batch on count as zero. -/
theorem pay2_apply (i : grid0.Coords) (w : Elt Ideal .i32) (x0 : Vec Ideal S1x2048x384 .fp8e4m3) (x1 : Vec Ideal S1x16x384 .f32) (x2 : Vec Ideal S1x2048x320 .fp8e5m2)
    (x3 : Vec Ideal S1x16x320 .f32) (a : Vec Ideal S384x320 .f32) (j0 : Fin 384) (j1 : Fin 320) :
    @Eq EReal (k0_pay2 i w x0 x1 x2 x3 a (ix2 j0 j1)) ((a (ix2 j0 j1) : EReal) + ∑ x : Fin 2048,
      (Scalar.select (IntOp.cmpi .slt (BitVec.ofNat 32 x.val) (Scalar.subi w (Scalar.muli (BitVec.ofNat 32 (i 1).val) 2048#32)))
        ((x0 (ix3 0 x j0) * x1 (ix3 0 ⟨x.val / 128, by omega⟩ j0) * (x2 (ix3 0 x j1) * x3 (ix3 0 ⟨x.val / 128, by omega⟩ j1)) : EReal)) 0)) := by
  unfold k0_pay2
  pointwise

end Cert.KernelIdeal.Gen

end
-- ==== Proof.Spec.lean ====
module

public import Idealize.ShloMosaic.Lib.Pointwise
public import Idealize.ShloMosaic.PureOps.Ideal

@[expose] public section

noncomputable section

namespace Cert.Value

open Idealize.ShloMosaic

/-- The contribution of token `t` of batch `b` to the entry `(j0, j1)` of the gradient: the dequantized activation times the dequantized
    output gradient where the token is before the end of its batch, and times zero where it is after it. -/
def term (A0 : (⟨3, ![3, 262144, 384]⟩ : Shape).Idx → EReal) (A1 : (⟨3, ![3, 2048, 384]⟩ : Shape).Idx → EReal)
    (A2 : (⟨3, ![3, 262144, 320]⟩ : Shape).Idx → EReal) (A3 : (⟨3, ![3, 2048, 320]⟩ : Shape).Idx → EReal)
    (L : (⟨1, ![3]⟩ : Shape).Idx → BitVec 32) (j0 : Fin 384) (j1 : Fin 320) (b : Fin 3) (t : Fin 262144) : EReal :=
  A0 (ix3 b t j0) * A1 (ix3 b ⟨t.val / 128, by omega⟩ j0) *
    (if (t.val : ℤ) < (L (ix1 b)).toInt then A2 (ix3 b t j1) * A3 (ix3 b ⟨t.val / 128, by omega⟩ j1) else 0)

/-- The gradient: what was accumulated before plus the contributions of all tokens of all batches. -/
def grad (A0 : (⟨3, ![3, 262144, 384]⟩ : Shape).Idx → EReal) (A1 : (⟨3, ![3, 2048, 384]⟩ : Shape).Idx → EReal)
    (A2 : (⟨3, ![3, 262144, 320]⟩ : Shape).Idx → EReal) (A3 : (⟨3, ![3, 2048, 320]⟩ : Shape).Idx → EReal)
    (A4 : (⟨2, ![384, 320]⟩ : Shape).Idx → EReal)
    (L : (⟨1, ![3]⟩ : Shape).Idx → BitVec 32) (j : (⟨2, ![384, 320]⟩ : Shape).Idx) : EReal :=
  A4 j + ∑ b : Fin 3, ∑ t : Fin 262144, term A0 A1 A2 A3 L (j 0) (j 1) b t

/-- A sum over `a` groups of `b` is the sum over all. -/
theorem sum_split {a b c : ℕ} (h : a * b = c) (f : Fin c → EReal) :
    ∑ i : Fin a, ∑ j : Fin b, f ⟨i.val * b + j.val, by
      subst h; calc i.val * b + j.val < i.val * b + b := by omega
        _ = (i.val + 1) * b := by ring
        _ ≤ a * b := Nat.mul_le_mul_right _ i.isLt⟩ = ∑ k : Fin c, f k := by
  subst h
  rw [← Fintype.sum_equiv finProdFinEquiv (fun p : Fin a × Fin b => f (finProdFinEquiv p)) f fun _ => rfl, Fintype.sum_prod_type]
  refine Finset.sum_congr rfl fun i _ => Finset.sum_congr rfl fun j _ => congrArg f (Fin.ext ?_)
  simp only [finProdFinEquiv_apply_val]
  ring

/-- A masked product is the first factor times the masked second factor: zero times anything is zero. -/
theorem select_mul (bit : BitVec 1) (P : Prop) [Decidable P] (h : bit = 1#1 ↔ P) (x y : EReal) :
    Scalar.select bit (x * y) 0 = x * (if P then y else 0) := by
  by_cases hP : P
  · have hb := h.mpr hP
    subst hb
    rw [if_pos hP]; rfl
  · have hb : bit = 0#1 := by
      have : ∀ b : BitVec 1, b = 0#1 ∨ b = 1#1 := by decide
      exact (this bit).resolve_right fun e => hP (h.mp e)
    subst hb
    rw [if_neg hP, mul_zero]; rfl

end Cert.Value

end
-- ==== Proof.IdealValue.lean ====
module

public import proofs.«01_k».proof.Proof.Words
public import proofs.«01_k».proof.Proof.Pay
public import proofs.«01_k».proof.Proof.Spec
public import proofs.«01_k».proof.Proof.IdealFrame
public import Idealize.ShloMosaic.Lib.Pointwise
public import Idealize.ShloMosaic.Lib.Pipeline.ValueKit
public import Idealize.ShloMosaic.PureOps.Ideal

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-! ## The grid's coordinates -/

/-- The grid has 384 points. -/
theorem N_eq : grid0.N = 384 := rfl

/-- The batch of point `t`. -/
theorem coord0 (t : Fin grid0.N) : (grid0.coords t 0).val = t.val / 128 := by
  have h := Pipeline.Grid.coords_val (G := grid0) t 0 (S := 128) (B := 3) rfl rfl
  have : t.val < 384 := t.isLt
  omega

/-- The token block of point `t`. -/
theorem coord1 (t : Fin grid0.N) : (grid0.coords t 1).val = t.val % 128 := by
  have h := Pipeline.Grid.coords_val (G := grid0) t 1 (S := 1) (B := 128) rfl rfl
  omega

/-- The batch of point `t`, as an index. -/
abbrev bat (t : Fin grid0.N) : Fin 3 := ⟨t.val / 128, by have : t.val < 384 := t.isLt; omega⟩

/-- The length the body reads at point `t` is the argument's at the batch. -/
theorem lenAt_tbl (c : Dev nD) (t : Fin grid0.N) : lenAt (tbl m) (grid0.coords t) = m ((c : Thread nD τ).loc main_arg5) (ix1 (bat t)) := by
  obtain rfl : c = 0 := Subsingleton.elim _ _
  rw [lenAt_eq]
  refine congrArg (m (((0 : Dev nD) : Thread nD τ).loc main_arg5)) ?_
  funext a
  match a with
  | ⟨0, _⟩ =>
    refine Fin.ext ?_
    show k0_off1 (grid0.coords t) 0 + 1 * 0 = t.val / 128
    rw [off1_eq, ← coord0 t]
    rfl

/-! ## The staged blocks -/

/-- Where each input's block lies at point `t`: the batch, the clamped token block, all columns. -/
theorem index0_0 (hO : Ok m) (t : Fin grid0.N) : (pcfg0.win (adm m hO) 0).index t = ![(grid0.coords t 0).val, blkOf (lenAt (tbl m) (grid0.coords t)) (grid0.coords t 1).val, 0] :=
  transform_0_eq (tbl m) (grid0.coords t)
/-- The same for this input. -/
theorem index0_1 (hO : Ok m) (t : Fin grid0.N) : (pcfg0.win (adm m hO) 1).index t = ![(grid0.coords t 0).val, blkOf (lenAt (tbl m) (grid0.coords t)) (grid0.coords t 1).val, 0] :=
  transform_1_eq (tbl m) (grid0.coords t)
/-- The same for this input. -/
theorem index0_2 (hO : Ok m) (t : Fin grid0.N) : (pcfg0.win (adm m hO) 2).index t = ![(grid0.coords t 0).val, blkOf (lenAt (tbl m) (grid0.coords t)) (grid0.coords t 1).val, 0] :=
  transform_2_eq (tbl m) (grid0.coords t)
/-- The same for this input. -/
theorem index0_3 (hO : Ok m) (t : Fin grid0.N) : (pcfg0.win (adm m hO) 3).index t = ![(grid0.coords t 0).val, blkOf (lenAt (tbl m) (grid0.coords t)) (grid0.coords t 1).val, 0] :=
  transform_3_eq (tbl m) (grid0.coords t)

/-- The row of the token arrays that row `x` of point `t`'s own block is. -/
abbrev tok (t : Fin grid0.N) (x : Fin 2048) : Fin 262144 := ⟨t.val % 128 * 2048 + x.val, by omega⟩

/-- Where the staged block is the point's own, row `x` of the activations' block is that token's. -/
theorem read0 (hO : Ok m) (c : Dev nD) (t : Fin grid0.N) (hb : blkOf (lenAt (tbl m) (grid0.coords t)) (t.val % 128) = t.val % 128) (x : Fin 2048) (j : Fin 384) :
    iblk m hO c 0 t (ix3 (0 : Fin 1) x j) = m ((c : Thread nD τ).loc main_arg0) (ix3 (bat t) (tok t x) j) := by
  blk_ext [iblk, V]
  · show (pcfg0.win (adm m hO) 0).index t 0 + 0 = _
    rw [index0_0]; show (grid0.coords t 0).val + 0 = _; rw [coord0, Nat.add_zero]
  · show (pcfg0.win (adm m hO) 0).index t 1 * 2048 + x.val = _
    rw [index0_0, coord1]; show blkOf _ _ * 2048 + x.val = _; rw [hb]
  · show (pcfg0.win (adm m hO) 0).index t 2 * 384 + j.val = _
    rw [index0_0]; show 0 * 384 + j.val = _; omega

/-- The same for the activations' scales: row `g` is the scale of the block's group `g`. -/
theorem read1 (hO : Ok m) (c : Dev nD) (t : Fin grid0.N) (hb : blkOf (lenAt (tbl m) (grid0.coords t)) (t.val % 128) = t.val % 128) (x : Fin 2048) (j : Fin 384) :
    iblk m hO c 1 t (ix3 (0 : Fin 1) (⟨x.val / 128, by omega⟩ : Fin 16) j) = m ((c : Thread nD τ).loc main_arg1) (ix3 (bat t) ⟨(tok t x).val / 128, by omega⟩ j) := by
  blk_ext [iblk, V]
  · show (pcfg0.win (adm m hO) 1).index t 0 + 0 = _
    rw [index0_1]; show (grid0.coords t 0).val + 0 = _; rw [coord0, Nat.add_zero]
  · show (pcfg0.win (adm m hO) 1).index t 1 * 16 + x.val / 128 = _
    rw [index0_1, coord1]; show blkOf _ _ * 16 + x.val / 128 = _; rw [hb]; show t.val % 128 * 16 + x.val / 128 = (t.val % 128 * 2048 + x.val) / 128; omega
  · show (pcfg0.win (adm m hO) 1).index t 2 * 384 + j.val = _
    rw [index0_1]; show 0 * 384 + j.val = _; omega

/-- The same for the output gradients. -/
theorem read2 (hO : Ok m) (c : Dev nD) (t : Fin grid0.N) (hb : blkOf (lenAt (tbl m) (grid0.coords t)) (t.val % 128) = t.val % 128) (x : Fin 2048) (j : Fin 320) :
    iblk m hO c 2 t (ix3 (0 : Fin 1) x j) = m ((c : Thread nD τ).loc main_arg2) (ix3 (bat t) (tok t x) j) := by
  blk_ext [iblk, V]
  · show (pcfg0.win (adm m hO) 2).index t 0 + 0 = _
    rw [index0_2]; show (grid0.coords t 0).val + 0 = _; rw [coord0, Nat.add_zero]
  · show (pcfg0.win (adm m hO) 2).index t 1 * 2048 + x.val = _
    rw [index0_2, coord1]; show blkOf _ _ * 2048 + x.val = _; rw [hb]
  · show (pcfg0.win (adm m hO) 2).index t 2 * 320 + j.val = _
    rw [index0_2]; show 0 * 320 + j.val = _; omega

/-- The same for the output gradients' scales. -/
theorem read3 (hO : Ok m) (c : Dev nD) (t : Fin grid0.N) (hb : blkOf (lenAt (tbl m) (grid0.coords t)) (t.val % 128) = t.val % 128) (x : Fin 2048) (j : Fin 320) :
    iblk m hO c 3 t (ix3 (0 : Fin 1) (⟨x.val / 128, by omega⟩ : Fin 16) j) = m ((c : Thread nD τ).loc main_arg3) (ix3 (bat t) ⟨(tok t x).val / 128, by omega⟩ j) := by
  blk_ext [iblk, V]
  · show (pcfg0.win (adm m hO) 3).index t 0 + 0 = _
    rw [index0_3]; show (grid0.coords t 0).val + 0 = _; rw [coord0, Nat.add_zero]
  · show (pcfg0.win (adm m hO) 3).index t 1 * 16 + x.val / 128 = _
    rw [index0_3, coord1]; show blkOf _ _ * 16 + x.val / 128 = _; rw [hb]; show t.val % 128 * 16 + x.val / 128 = (t.val % 128 * 2048 + x.val) / 128; omega
  · show (pcfg0.win (adm m hO) 3).index t 2 * 320 + j.val = _
    rw [index0_3]; show 0 * 320 + j.val = _; omega

/-- The accumulated gradient's block is the whole array. -/
theorem read4 (hO : Ok m) (c : Dev nD) (t : Fin grid0.N) (j0 : Fin 384) (j1 : Fin 320) :
    iblk m hO c 4 t (ix2 j0 j1) = m ((c : Thread nD τ).loc main_arg4) (ix2 j0 j1) := by
  blk_ext [iblk, V]
  · show 0 * 384 + j0.val = _; omega
  · show 0 * 320 + j1.val = _; omega

/-! ## One point's step -/

/-- A token's contribution, over the launch memory of core `c`. -/
abbrev T (c : Dev nD) (j0 : Fin 384) (j1 : Fin 320) (b : Fin 3) (t : Fin 262144) : EReal :=
  Value.term (m ((c : Thread nD τ).loc main_arg0)) (m ((c : Thread nD τ).loc main_arg1)) (m ((c : Thread nD τ).loc main_arg2))
    (m ((c : Thread nD τ).loc main_arg3)) (m ((c : Thread nD τ).loc main_arg5)) j0 j1 b t

/-- The contributions of point `t`'s own rows. -/
def S (c : Dev nD) (j0 : Fin 384) (j1 : Fin 320) (t : Fin grid0.N) : EReal := ∑ x : Fin 2048, T m c j0 j1 (bat t) (tok t x)

/-- The precondition, read: every length in the range where the kernel's words do not wrap. -/
def InRange : Prop := ∀ (c : Dev nD) (b : Fin 3), -2147223552 ≤ (m ((c : Thread nD τ).loc main_arg5) (ix1 b) : BitVec 32).toInt
  ∧ (m ((c : Thread nD τ).loc main_arg5) (ix1 b) : BitVec 32).toInt ≤ 2147481600

/-- At every point the body adds the contributions of the point's own rows: of all its rows where a whole block is left, of those before
    the end where a part is, and nothing where nothing is left. Stated at any blocks that hold the point's own rows where rows are left. -/
theorem step_sum (t : Fin grid0.N) (w : BitVec 32) (hlo : -2147223552 ≤ w.toInt) (hhi : w.toInt ≤ 2147481600)
    (A0 : (⟨3, ![3, 262144, 384]⟩ : Shape).Idx → EReal) (A1 : (⟨3, ![3, 2048, 384]⟩ : Shape).Idx → EReal)
    (A2 : (⟨3, ![3, 262144, 320]⟩ : Shape).Idx → EReal) (A3 : (⟨3, ![3, 2048, 320]⟩ : Shape).Idx → EReal)
    (L : (⟨1, ![3]⟩ : Shape).Idx → BitVec 32) (hL : w = L (ix1 (bat t)))
    (x0 : Vec Ideal S1x2048x384 .fp8e4m3) (x1 : Vec Ideal S1x16x384 .f32) (x2 : Vec Ideal S1x2048x320 .fp8e5m2) (x3 : Vec Ideal S1x16x320 .f32)
    (h0 : blkOf w (t.val % 128) = t.val % 128 → ∀ (x : Fin 2048) (j : Fin 384), x0 (ix3 (0 : Fin 1) x j) = A0 (ix3 (bat t) (tok t x) j))
    (h1 : blkOf w (t.val % 128) = t.val % 128 → ∀ (x : Fin 2048) (j : Fin 384), x1 (ix3 (0 : Fin 1) (⟨x.val / 128, by omega⟩ : Fin 16) j) = A1 (ix3 (bat t) ⟨(tok t x).val / 128, by omega⟩ j))
    (h2 : blkOf w (t.val % 128) = t.val % 128 → ∀ (x : Fin 2048) (j : Fin 320), x2 (ix3 (0 : Fin 1) x j) = A2 (ix3 (bat t) (tok t x) j))
    (h3 : blkOf w (t.val % 128) = t.val % 128 → ∀ (x : Fin 2048) (j : Fin 320), x3 (ix3 (0 : Fin 1) (⟨x.val / 128, by omega⟩ : Fin 16) j) = A3 (ix3 (bat t) ⟨(tok t x).val / 128, by omega⟩ j))
    (x4 xo : Vec Ideal S384x320 .f32) (j0 : Fin 384) (j1 : Fin 320) :
    @Eq EReal (step (grid0.coords t) w x0 x1 x2 x3 x4 xo (ix2 j0 j1))
      (@HAdd.hAdd EReal EReal EReal _ ((if k0_cond1 (grid0.coords t) = 1#1 then x4 else xo) (ix2 j0 j1)) (∑ x : Fin 2048, Value.term A0 A1 A2 A3 L j0 j1 (bat t) (tok t x))) := by
  have ht : t.val < 384 := t.isLt
  have hl := left_toInt w (t.val % 128) (by omega) hlo
  unfold step
  generalize (if k0_cond1 (grid0.coords t) = 1#1 then x4 else xo) = a
  have c2 := cond2_iff (grid0.coords t) w
  have c3 := cond3_iff (grid0.coords t) w
  rw [coord1, hl] at c2 c3
  by_cases hpos : 0 < (left w (t.val % 128)).toInt
  · have hb : blkOf w (t.val % 128) = t.val % 128 :=
      blkOf_eq _ _ (by omega) (by rw [hl] at hpos; omega) hhi
    by_cases hfull : 2048 ≤ (left w (t.val % 128)).toInt
    · rw [hl] at hfull
      rw [if_neg (fun h => by have := (c3.mp h).2; omega), if_pos (c2.mpr hfull)]
      refine (pay1_apply _ _ _ _ _ j0 j1).trans ?_
      refine congrArg (@HAdd.hAdd EReal EReal EReal _ (a (ix2 j0 j1))) (Finset.sum_congr rfl fun x _ => ?_)
      rw [h0 hb, h1 hb, h2 hb, h3 hb]
      unfold Value.term
      rw [if_pos (by rw [← hL]; show ((t.val % 128 * 2048 + x.val : ℕ) : ℤ) < _; omega)]
    · have hpos' := hpos
      have hfull' := hfull
      rw [hl] at hpos' hfull'
      rw [if_pos (c3.mpr ⟨hpos', by omega⟩), if_neg (fun h => hfull' (c2.mp h))]
      refine (pay2_apply _ _ _ _ _ _ _ j0 j1).trans ?_
      refine congrArg (@HAdd.hAdd EReal EReal EReal _ (a (ix2 j0 j1))) (Finset.sum_congr rfl fun x _ => ?_)
      rw [h0 hb, h1 hb, h2 hb, h3 hb, coord1]
      refine (Value.select_mul _ _ (mask_iff w (t.val % 128) x.val x.isLt) _ _).trans ?_
      unfold Value.term
      rw [← hL]
      refine congrArg (@HMul.hMul EReal EReal EReal _ _) (if_congr ?_ rfl rfl)
      rw [hl]
      show _ ↔ ((t.val % 128 * 2048 + x.val : ℕ) : ℤ) < _
      omega
  · rw [hl] at hpos
    rw [if_neg (fun h => hpos (c3.mp h).1), if_neg (fun h => hpos (by have := c2.mp h; omega))]
    rw [Finset.sum_eq_zero fun x _ => ?_]
    · exact (add_zero (M := EReal) (a (ix2 j0 j1))).symm
    · unfold Value.term
      rw [if_neg (by rw [← hL]; show ¬ ((t.val % 128 * 2048 + x.val : ℕ) : ℤ) < _; omega), mul_zero]

/-- The same at the blocks the kernel stages. -/
theorem step_apply (hR : InRange m) (hO : Ok m) (c : Dev nD) (t : Fin grid0.N) (x4 xo : Vec Ideal S384x320 .f32) (j0 : Fin 384) (j1 : Fin 320) :
    @Eq EReal (step (grid0.coords t) (lenAt (tbl m) (grid0.coords t)) (iblk m hO c 0 t) (iblk m hO c 1 t) (iblk m hO c 2 t) (iblk m hO c 3 t) x4 xo (ix2 j0 j1))
      (@HAdd.hAdd EReal EReal EReal _ ((if k0_cond1 (grid0.coords t) = 1#1 then x4 else xo) (ix2 j0 j1)) (S m c j0 j1 t)) := by
  have hw := lenAt_tbl m c t
  exact step_sum t (lenAt (tbl m) (grid0.coords t)) (by rw [hw]; exact (hR c (bat t)).1) (by rw [hw]; exact (hR c (bat t)).2) _ _ _ _ _ hw _ _ _ _
    (read0 m hO c t) (read1 m hO c t) (read2 m hO c t) (read3 m hO c t) x4 xo j0 j1

/-! ## The accumulator -/

/-- After point `n` the accumulator holds the argument plus the contributions of the points so far. -/
theorem acc_apply (hR : InRange m) (hO : Ok m) (c : Dev nD) (j0 : Fin 384) (j1 : Fin 320) : ∀ (n : ℕ) (hn : n < 384),
    @Eq EReal (acc m hO c n hn (ix2 j0 j1)) (@HAdd.hAdd EReal EReal EReal _ (m ((c : Thread nD τ).loc main_arg4) (ix2 j0 j1)) (∑ p : Fin (n + 1), S m c j0 j1 ⟨p.val, by show p.val < 384; omega⟩))
  | 0, hn => by
    refine (step_apply m hR hO c ⟨0, hn⟩ _ _ j0 j1).trans (congrArg₂ (@HAdd.hAdd EReal EReal EReal _) ?_ ?_)
    · exact (congrFun (if_pos ((cond1_iff ⟨0, hn⟩).mpr rfl)) (ix2 j0 j1)).trans (read4 m hO c ⟨0, hn⟩ j0 j1)
    · exact (Fin.sum_univ_one (fun p : Fin 1 => S m c j0 j1 ⟨p.val, by show p.val < 384; omega⟩)).symm
  | n + 1, hn => by
    refine (step_apply m hR hO c ⟨n + 1, hn⟩ _ _ j0 j1).trans ?_
    refine (congrArg (fun z => @HAdd.hAdd EReal EReal EReal _ z (S m c j0 j1 ⟨n + 1, hn⟩))
      ((congrFun (if_neg (fun h => absurd ((cond1_iff ⟨n + 1, hn⟩).mp h) (Nat.succ_ne_zero n))) (ix2 j0 j1)).trans (acc_apply hR hO c j0 j1 n (by omega)))).trans ?_
    refine (add_assoc (G := EReal) _ _ _).trans (congrArg (@HAdd.hAdd EReal EReal EReal _ _) ?_)
    exact (Fin.sum_univ_castSucc (n := n + 1) (fun p : Fin (n + 2) => S m c j0 j1 ⟨p.val, by show p.val < 384; omega⟩)).symm

/-- The contributions of all the grid's points are those of all tokens of all batches. -/
theorem sum_S (c : Dev nD) (j0 : Fin 384) (j1 : Fin 320) :
    ∑ p : Fin 384, S m c j0 j1 ⟨p.val, p.isLt⟩ = ∑ b : Fin 3, ∑ t : Fin 262144, T m c j0 j1 b t := by
  rw [← Value.sum_split (a := 3) (b := 128) (c := 384) (by norm_num)]
  refine Finset.sum_congr rfl fun b _ => ?_
  rw [← Value.sum_split (a := 128) (b := 2048) (c := 262144) (by norm_num)]
  refine Finset.sum_congr rfl fun n _ => ?_
  unfold S
  refine Finset.sum_congr rfl fun x _ => ?_
  refine congrArg₂ (T m c j0 j1) (Fin.ext ?_) (Fin.ext ?_)
  · show (b.val * 128 + n.val) / 128 = b.val; omega
  · show (b.val * 128 + n.val) % 128 * 2048 + x.val = n.val * 2048 + x.val
    rw [show (b.val * 128 + n.val) % 128 = n.val by omega]

/-- The gradient over the launch memory. -/
abbrev G (c : Dev nD) : Buf (Elt Ideal) ((c : Thread nD τ).loc main_v0) :=
  Value.grad (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))

/-- After the last point it holds the gradient. -/
theorem acc_last (hR : InRange m) (hO : Ok m) (c : Dev nD) : acc m hO c 383 (by show 383 < 384; omega) = G m c := by
  funext j
  rw [← ix2_eta (n0 := 384) (n1 := 320) j]
  refine (acc_apply m hR hO c (j 0) (j 1) 383 (by omega)).trans ?_
  exact congrArg (@HAdd.hAdd EReal EReal EReal _ (m ((c : Thread nD τ).loc main_arg4) (ix2 (j 0) (j 1)))) (sum_S m c (j 0) (j 1))

/-! ## The result array -/

/-- The result is written back once, after the last point, whole. -/
theorem whole5 (hO : Ok m) : ((cfgM m hO).win 5).WholeAt ⟨383, by show 383 < 384; omega⟩ :=
  ⟨(flush0_5 (adm m hO) _).mpr rfl, fun t hf => Fin.ext (by
    have := (flush0_5 (adm m hO) t).mp hf
    have : t.val < 384 := t.isLt
    show t.val = 383
    omega), fun a => by fin_cases a <;> exact ⟨rfl, rfl⟩⟩

/-- So the result array ends holding the accumulator after the last point. -/
theorem final_o (hO : Ok m) (c : Dev nD) : (dats m hO 0 c).arrAt 5 (cfgM m hO).N = acc m hO c 383 (by show 383 < 384; omega) := by
  refine (dats m hO 0 c).arrAt_eq_of_after_last 5 ⟨383, by show 383 < 384; omega⟩ (whole5 m hO) _ (fun j => ?_) (Memref.isWhole_whole main_v0)
  rw [after0_5]
  rfl

/-- The kernel ends with the gradient in its result, its arguments unchanged. -/
theorem run_value (hR : InRange m) : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans ((final_o m (ok_all _) c).trans (acc_last m hR (ok_all _) c)), h.2 c⟩)
    (θ_run_and (run_main m ρ (ok_all _)) (unchanged m ρ (ok_all _)))

end Cert.KernelIdeal.Gen

end
-- ==== Proof.Dot.lean ====
module

public import Idealize.ShloMosaic.Lib.Pointwise
public import Idealize.ShloMosaic.PureOps.Ideal

@[expose] public section

noncomputable section

namespace Cert.Value

open Idealize.ShloMosaic

variable {sl sr so : Shape} (d : DotDims sl sr so)

/-- A contraction over three axes has contraction indices of rank three. -/
theorem rank_contr₃ {a b c : Fin sl.rank} (hc : d.lhsContracting = [a, b, c]) : d.contr.rank = 3 := by
  rw [d.rank_contr, hc]; rfl

/-- Their extents are the contracted axes' extents. -/
theorem size_contr₃ {a b c : Fin sl.rank} (hc : d.lhsContracting = [a, b, c]) {K₁ K₂ K₃ : ℕ} (hK₁ : sl.size a = K₁) (hK₂ : sl.size b = K₂)
    (hK₃ : sl.size c = K₃) (p : Fin d.contr.rank) : (if p.val = 0 then K₁ else if p.val = 1 then K₂ else K₃) = d.contr.size p := by
  subst hK₁ hK₂ hK₃
  have : ∀ (l : List (Fin sl.rank)) (_ : l = [a, b, c]) (p : Fin (l.map sl.size).length),
      (if p.val = 0 then sl.size a else if p.val = 1 then sl.size b else sl.size c) = (l.map sl.size)[p] := by
    rintro _ rfl ⟨p, hp⟩
    have : p = 0 ∨ p = 1 ∨ p = 2 := by simp at hp; omega
    rcases this with rfl | rfl | rfl <;> rfl
  exact this _ hc p

/-- The contraction index of a three-axis contraction, from its coordinates. -/
def contrIdx₃ {a b c : Fin sl.rank} (hc : d.lhsContracting = [a, b, c]) {K₁ K₂ K₃ : ℕ} (hK₁ : sl.size a = K₁) (hK₂ : sl.size b = K₂)
    (hK₃ : sl.size c = K₃) (k₁ : Fin K₁) (k₂ : Fin K₂) (k₃ : Fin K₃) : d.contr.Idx :=
  fun p => if h : p.val = 0 then k₁.cast (by rw [← size_contr₃ d hc hK₁ hK₂ hK₃ p, if_pos h])
    else if h' : p.val = 1 then k₂.cast (by rw [← size_contr₃ d hc hK₁ hK₂ hK₃ p, if_neg h, if_pos h'])
    else k₃.cast (by rw [← size_contr₃ d hc hK₁ hK₂ hK₃ p, if_neg h, if_neg h'])

/-- Three-axis contraction indices are the triples of coordinates on those axes. -/
def contrEquiv₃ {a b c : Fin sl.rank} (hc : d.lhsContracting = [a, b, c]) {K₁ K₂ K₃ : ℕ} (hK₁ : sl.size a = K₁) (hK₂ : sl.size b = K₂)
    (hK₃ : sl.size c = K₃) : Fin K₁ × Fin K₂ × Fin K₃ ≃ d.contr.Idx where
  toFun k := contrIdx₃ d hc hK₁ hK₂ hK₃ k.1 k.2.1 k.2.2
  invFun kk :=
    ((kk ⟨0, by rw [rank_contr₃ d hc]; omega⟩).cast (size_contr₃ d hc hK₁ hK₂ hK₃ _).symm,
     (kk ⟨1, by rw [rank_contr₃ d hc]; omega⟩).cast (size_contr₃ d hc hK₁ hK₂ hK₃ _).symm,
     (kk ⟨2, by rw [rank_contr₃ d hc]; omega⟩).cast (size_contr₃ d hc hK₁ hK₂ hK₃ _).symm)
  left_inv _ := rfl
  right_inv kk := by
    funext p
    have : p = ⟨0, by rw [rank_contr₃ d hc]; omega⟩ ∨ p = ⟨1, by rw [rank_contr₃ d hc]; omega⟩ ∨ p = ⟨2, by rw [rank_contr₃ d hc]; omega⟩ := by
      have := rank_contr₃ d hc
      rcases p with ⟨p, hp⟩
      simp only [Fin.mk.injEq]; omega
    rcases this with rfl | rfl | rfl <;> rfl

/-- A contraction over three axes into zero, at a result index, as a triple sum; the operands' indices named. -/
theorem matmul_apply₃ {a b c : Fin sl.rank} (hc : d.lhsContracting = [a, b, c]) {K₁ K₂ K₃ : ℕ} (hK₁ : sl.size a = K₁)
    (hK₂ : sl.size b = K₂) (hK₃ : sl.size c = K₃) (lhs : sl.Idx → EReal) (rhs : sr.Idx → EReal) (j : so.Idx)
    (L : Fin K₁ → Fin K₂ → Fin K₃ → sl.Idx) (R : Fin K₁ → Fin K₂ → Fin K₃ → sr.Idx)
    (hL : ∀ k₁ k₂ k₃, d.lhsIdx j (contrIdx₃ d hc hK₁ hK₂ hK₃ k₁ k₂ k₃) = L k₁ k₂ k₃)
    (hR : ∀ k₁ k₂ k₃, d.rhsIdx j (contrIdx₃ d hc hK₁ hK₂ hK₃ k₁ k₂ k₃) = R k₁ k₂ k₃) :
    Ideal.matmul d lhs rhs (fun _ => 0) j = ∑ k₁ : Fin K₁, ∑ k₂ : Fin K₂, ∑ k₃ : Fin K₃, lhs (L k₁ k₂ k₃) * rhs (R k₁ k₂ k₃) := by
  show (0 : EReal) + ∑ k : d.contr.Idx, lhs (d.lhsIdx j k) * rhs (d.rhsIdx j k) = _
  rw [zero_add, ← Fintype.sum_equiv (contrEquiv₃ d hc hK₁ hK₂ hK₃)
    (fun k => lhs (d.lhsIdx j (contrIdx₃ d hc hK₁ hK₂ hK₃ k.1 k.2.1 k.2.2)) * rhs (d.rhsIdx j (contrIdx₃ d hc hK₁ hK₂ hK₃ k.1 k.2.1 k.2.2))) _ fun _ => rfl]
  simp only [Fintype.sum_prod_type, hL, hR]

end Cert.Value

end
-- ==== Proof.RefValue.lean ====
module

public import proofs.«01_k».proof.Proof.Gen.ReferenceIdeal.Frame
public import proofs.«01_k».proof.Proof.Dot
public import proofs.«01_k».proof.Proof.Spec
public import Idealize.ShloMosaic.Lib.WordCmp
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.PureOps.Ideal

@[expose] public section

set_option maxRecDepth 16384

noncomputable section

namespace Cert.ReferenceIdeal.Gen

open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The gridless call leaves the activations' codes as they are: the conversion is the identity on the extended reals. -/
theorem arr_v0_0 (c : Dev nD) : (dats (F := Ideal) m 0 c).arrAt 2 cfg0.N = fun i => m ((c : Thread nD τ).loc main_arg0) i := by
  refine (dats m 0 c).arrAt_eq_of_covers 2 _ (by decide +kernel) fun t hf y => ?_
  blk_simp
  rw [after0_2]
  frame_out
  unfold k0_pay1
  show iblk m c 0 t y = _
  blk_ext [iblk, V] <;> rfl

/-- The same for the output gradients' codes. -/
theorem arr_v0_1 (c : Dev nD) : (dats (F := Ideal) m 0 c).arrAt 3 cfg0.N = fun i => m ((c : Thread nD τ).loc main_arg2) i := by
  refine (dats m 0 c).arrAt_eq_of_covers 3 _ (by decide +kernel) fun t hf y => ?_
  blk_simp
  rw [after0_3]
  frame_out
  unfold k0_pay2
  show iblk m c 1 t y = _
  blk_ext [iblk, V] <;> rfl

/-- The contraction over batches, groups and tokens of a group, as a triple sum. -/
theorem dot_apply (a : S3x2048x128x384.Idx → EReal) (b : S3x2048x128x320.Idx → EReal) (j0 : Fin 384) (j1 : Fin 320) :
    Ideal.matmul dot_S3x2048x128x384_S3x2048x128x320_S384x320_012_012_3_3_n_n a b (fun _ => 0) (ix2 j0 j1)
      = ∑ k0 : Fin 3, ∑ k1 : Fin 2048, ∑ k2 : Fin 128, a (ix4 k0 k1 k2 j0) * b (ix4 k0 k1 k2 j1) := by
  refine Value.matmul_apply₃ dot_S3x2048x128x384_S3x2048x128x320_S384x320_012_012_3_3_n_n rfl rfl rfl rfl a b (ix2 j0 j1) _ _ ?_ ?_
  · intro k0 k1 k2
    funext p
    match p with
    | ⟨0, _⟩ => rfl
    | ⟨1, _⟩ => rfl
    | ⟨2, _⟩ => rfl
    | ⟨3, _⟩ => rfl
  · intro k0 k1 k2
    funext p
    match p with
    | ⟨0, _⟩ => rfl
    | ⟨1, _⟩ => rfl
    | ⟨2, _⟩ => rfl
    | ⟨3, _⟩ => rfl

/-- The valuation when the host's operations after the region start. -/
abbrev VA (c : Dev nD) := Pipeline.withArrays (cfgs 0).spec c (V0 m c) (fun w => (dats m 0 c).arrAt w (cfgs 0).N)

/-- The call's arrays are distinct buffers. -/
theorem arr_inj : Function.Injective (Pipeline.arrRef (cfgs 0).spec) := by decide

/-- When the host's operations start, the call's first result holds the activations' codes. -/
theorem VA_v0_0 (c : Dev nD) : VA m c (Proc.tc.devRef main_v0_0) = m ((c : Thread nD τ).loc main_arg0) :=
  (Pipeline.withArrays_arr (cfgs 0).spec arr_inj c _ _ 2).trans (arr_v0_0 m c)
/-- Its second result holds the output gradients' codes. -/
theorem VA_v0_1 (c : Dev nD) : VA m c (Proc.tc.devRef main_v0_1) = m ((c : Thread nD τ).loc main_arg2) :=
  (Pipeline.withArrays_arr (cfgs 0).spec arr_inj c _ _ 3).trans (arr_v0_1 m c)
/-- The call leaves the activations' scales alone. -/
theorem VA_arg1 (c : Dev nD) : VA m c (Proc.tc.devRef main_arg1) = m ((c : Thread nD τ).loc main_arg1) :=
  Pipeline.withArrays_of_ne (cfgs 0).spec c _ _ main_arg1 (by decide)
/-- The call leaves the output gradients' scales alone. -/
theorem VA_arg3 (c : Dev nD) : VA m c (Proc.tc.devRef main_arg3) = m ((c : Thread nD τ).loc main_arg3) :=
  Pipeline.withArrays_of_ne (cfgs 0).spec c _ _ main_arg3 (by decide)
/-- The call leaves the accumulated gradient alone. -/
theorem VA_arg4 (c : Dev nD) : VA m c (Proc.tc.devRef main_arg4) = m ((c : Thread nD τ).loc main_arg4) :=
  Pipeline.withArrays_of_ne (cfgs 0).spec c _ _ main_arg4 (by decide)
/-- The call leaves the lengths alone. -/
theorem VA_arg5 (c : Dev nD) : VA m c (Proc.tc.devRef main_arg5) = m ((c : Thread nD τ).loc main_arg5) :=
  Pipeline.withArrays_of_ne (cfgs 0).spec c _ _ main_arg5 (by decide)

/-- The reference's mask at token `r` of group `n`: the token's position is before the end of the batch. -/
theorem valid_iff (w : BitVec 32) (n r : ℕ) (hn : n < 2048) (hr : r < 128) :
    IntOp.cmpi .slt (IntOp.addi (IntOp.muli (BitVec.ofNat 32 n) 128#32) (BitVec.ofNat 32 r)) w = 1#1 ↔ ((n * 128 + r : ℕ) : ℤ) < w.toInt := by
  have e : IntOp.addi (IntOp.muli (BitVec.ofNat 32 n) 128#32) (BitVec.ofNat 32 r) = BitVec.ofNat 32 (n * 128 + r) := by
    show BitVec.ofNat 32 n * BitVec.ofNat 32 128 + BitVec.ofNat 32 r = _
    apply BitVec.eq_of_toNat_eq
    simp only [BitVec.toNat_add, BitVec.toNat_mul, BitVec.toNat_ofNat]
    omega
  rw [e]
  show BitVec.ofBool ((BitVec.ofNat 32 (n * 128 + r)).slt w) = 1#1 ↔ _
  rw [WordCmp.ofBool_eq_one_iff, BitVec.slt_iff_toInt_lt, WordCmp.toInt_ofNat_of_lt (by omega)]

/-- What the host's operations leave in the result: the gradient. -/
theorem tail_v28 (c : Dev nD) (j0 : Fin 384) (j1 : Fin 320) :
    @Eq EReal (Pipeline.afterTail₀ cfgs (dats (F := Ideal) m) 0 (V0 m) [hostOps1, hostOps1_1, hostOps1_2] c main_v28 (ix2 j0 j1))
      (Value.grad (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 j0 j1)) := by
  unfold Pipeline.afterTail₀
  simp only [hostOps1, hostOps1_1, hostOps1_2, List.flatten_cons, List.flatten_nil, List.append_nil, List.cons_append, List.nil_append]
  after_reads_at
  rw [dot_apply]
  have e0 := VA_v0_0 m c
  have e1 := VA_v0_1 m c
  have e2 := VA_arg1 m c
  have e3 := VA_arg3 m c
  have e4 := VA_arg4 m c
  have e5 := VA_arg5 m c
  unfold VA at e0 e1 e2 e3 e4 e5
  rw [e0, e1, e2, e3, e4, e5]
  pointwise
  unfold Value.grad
  refine congrArg (@HAdd.hAdd EReal EReal EReal _ (m (c.tc.loc main_arg4) (ix2 j0 j1))) (Finset.sum_congr rfl fun b _ => ?_)
  rw [← Value.sum_split (a := 2048) (b := 128) (c := 262144) (by norm_num)]
  refine Finset.sum_congr rfl fun n _ => Finset.sum_congr rfl fun r _ => ?_
  have hq : ∀ h, (⟨(n.val * 128 + r.val) / 128, h⟩ : Fin 2048) = n := fun h => Fin.ext (by show (n.val * 128 + r.val) / 128 = n.val; omega)
  refine (Value.select_mul _ _ (valid_iff _ n.val r.val n.isLt r.isLt) _ _).trans ?_
  unfold Value.term
  simp only [hq, ix2_0, ix2_1]
  try rfl

/-- The reference ends with the gradient in its result, its arguments unchanged. -/
theorem run_value : θ_run defs (onTc (τ := τ) (main (F := Ideal))) ⟨m, fun _ => 0, ρ⟩ (fun r => ∀ c : Dev nD,
      r.2.mem ((c.tc : Thread nD τ).loc main_v28) = (Value.grad (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v28 (Pipeline.mem_restRefs_of main_v28 (by decide) (by decide))).trans
      (funext fun j => by rw [← ix2_eta (n0 := 384) (n1 := 320) j]; exact tail_v28 m c (j 0) (j 1)), h.2.1 c⟩)
    (θ_run_and (run_main m ρ) (frame m ρ))

end Cert.ReferenceIdeal.Gen

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.IdealFrame
public import proofs.«01_k».proof.Proof.IdealValue
public import proofs.«01_k».proof.Proof.RefValue
public import Idealize.ShloMosaic.Adequacy
public import Idealize.ShloMosaic.Init

@[expose] public section

noncomputable section

namespace Cert.Proof

open Idealize.ShloMosaic Idealize.SL.Sem

/-- The precondition's one stated fact: a scalar broadcasts to the shape of the lengths. -/
theorem preFacts : Cert.Pre_lengths_no_overflow.Facts := ⟨by decide⟩

/-- The precondition, read element by element: every length is in the range where the kernel's words do not wrap. -/
theorem inRange (m : (ℓ : Loc Cert.KernelIdeal.nD Cert.KernelIdeal.τ Cert.KernelIdeal.sig) → Buf (Elt Ideal) ℓ)
    (h : Cert.Pre_KernelIdeal_lengths_no_overflow (hPre_lengths_no_overflow := preFacts) m) : Cert.KernelIdeal.Gen.InRange m := by
  intro c b
  have hb := congrFun (h c) (ix1 b)
  generalize (m ((c.tc : Thread Cert.KernelIdeal.nD Cert.KernelIdeal.τ).loc Cert.KernelIdeal.main_arg5)) = L at hb ⊢
  have hb' : IntOp.andi (BitVec.ofBool ((2147743744#32).sle (L (ix1 b) : BitVec 32))) (BitVec.ofBool ((L (ix1 b) : BitVec 32).sle 2147481600#32)) = 1#1 := hb
  rw [WordCmp.andi_ofBool, WordCmp.ofBool_eq_one_iff, Bool.and_eq_true, BitVec.sle_iff_toInt_le, BitVec.sle_iff_toInt_le] at hb'
  exact hb'

/-- Over the extended reals the kernel and the reference end with the same array. -/
theorem algebraic : Cert.algebraic_KernelIdeal_ReferenceIdeal_pre_lengths_no_overflow (hKernelIdeal := Cert.KernelIdeal.Gen.facts)
    (hReferenceIdeal := Cert.ReferenceIdeal.Gen.facts) (hPre_lengths_no_overflow := preFacts) := by
  intro m g m' g' hpre hagree
  refine ⟨fun c => Cert.KernelIdeal.Gen.G m c, Cert.KernelIdeal.Gen.run_value m g (inRange m hpre), ?_⟩
  refine (θ_run _ _ _).mono (fun r h c => ⟨(h c).1.trans ?_, (h c).2⟩) (Cert.ReferenceIdeal.Gen.run_value m' g')
  obtain ⟨h0, h1, h2, h3, h4, h5⟩ := hagree c
  rw [h0, h1, h2, h3, h4, h5]

/-- All the claims of the certificate. -/
theorem claim : Cert.Claim :=
  ⟨Cert.Kernel.Gen.facts, Cert.KernelIdeal.Gen.facts, Cert.ReferenceIdeal.Gen.facts, preFacts,
    fun m g _ => Cert.Kernel.Gen.frame m g (Cert.Kernel.Gen.ok_all _),
    fun m g _ => Cert.KernelIdeal.Gen.frame m g (Cert.KernelIdeal.Gen.ok_all _),
    fun m g _ => Cert.KernelIdeal.Gen.frame m g (Cert.KernelIdeal.Gen.ok_all _),
    fun m g _ => Cert.ReferenceIdeal.Gen.frame m g,
    fun m g _ => Cert.ReferenceIdeal.Gen.frame m g,
    trivial,
    algebraic⟩

end Cert.Proof

end
